-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_in_range_KernelIdeal [hPre_scale_in_range_KernelIdeal : Cert.Pre_scale_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scale_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_in_range_ReferenceIdeal [hPre_scale_in_range_ReferenceIdeal : Cert.Pre_scale_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scale_in_range_KernelIdeal [hKernelIdeal : Cert.KernelIdeal.Facts] [hPre_scale_in_range_KernelIdeal : Cert.Pre_scale_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scale_in_range_ReferenceIdeal [hReferenceIdeal : Cert.ReferenceIdeal.Facts] [hPre_scale_in_range_ReferenceIdeal : Cert.Pre_scale_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_scale_in_range_KernelIdeal [hKernelIdeal : Cert.KernelIdeal.Facts] [hReferenceIdeal : Cert.ReferenceIdeal.Facts] [hPre_scale_in_range_KernelIdeal : Cert.Pre_scale_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_in_range_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_scale_in_range_KernelIdeal : Cert.Pre_scale_in_range_KernelIdeal.Facts) (hPre_scale_in_range_ReferenceIdeal : Cert.Pre_scale_in_range_ReferenceIdeal.Facts),
    quiescent_Kernel (hKernel := hKernel)
    ∧ quiescent_KernelIdeal (hKernelIdeal := hKernelIdeal)
    ∧ quiescent_KernelIdeal_pre_scale_in_range_KernelIdeal (hKernelIdeal := hKernelIdeal) (hPre_scale_in_range_KernelIdeal := hPre_scale_in_range_KernelIdeal)
    ∧ quiescent_ReferenceIdeal (hReferenceIdeal := hReferenceIdeal)
    ∧ quiescent_ReferenceIdeal_pre_scale_in_range_ReferenceIdeal (hReferenceIdeal := hReferenceIdeal) (hPre_scale_in_range_ReferenceIdeal := hPre_scale_in_range_ReferenceIdeal)
    ∧ preserves_Kernel_KernelIdeal
    ∧ algebraic_KernelIdeal_ReferenceIdeal_pre_scale_in_range_KernelIdeal (hKernelIdeal := hKernelIdeal) (hReferenceIdeal := hReferenceIdeal) (hPre_scale_in_range_KernelIdeal := hPre_scale_in_range_KernelIdeal)
-- ==== Pre_scale_in_range_KernelIdeal.lean ====
abbrev S4096x512 : Shape := ⟨2, ![4096, 512]⟩
abbrev S512x2048 : Shape := ⟨2, ![512, 2048]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4096x512 .fp8e5m2) (main_arg1 : FVec F S512x2048 .fp8e5m2) (main_arg2 : FVec F S1 .f32) (main_arg3 : FVec F S1 .f32) : IVec S1 1 :=
  let main_v0 : FVec F S1 .f32 := mulf main_arg2 main_arg3
  let main_cst : FVec F S_ .f32 := constant S_ .f32 0x00000000#32
  let main_v1 : FVec F S1 .f32 := broadcastInDim S1 ![] bcast_S_S1 main_cst
  let main_v2 : IVec S1 1 := cmpf .oge main_v0 main_v1
  let main_cst_0 : FVec F S_ .f32 := constant S_ .f32 0x7F800000#32
  let main_v3 : FVec F S1 .f32 := broadcastInDim S1 ![] bcast_S_S1 main_cst_0
  let main_v4 : IVec S1 1 := cmpf .olt main_v0 main_v3
  let main_v5 : IVec S1 1 := andi main_v2 main_v4
  main_v5
-- ==== Pre_scale_in_range_ReferenceIdeal.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4096x4096 .fp8e5m2) (main_arg1 : FVec F S4096x2048 .fp8e5m2) (main_arg2 : FVec F S1 .f32) (main_arg3 : FVec F S1 .f32) : IVec S1 1 :=
  let main_v0 : FVec F S1 .f32 := mulf main_arg2 main_arg3
  let main_cst : FVec F S_ .f32 := constant S_ .f32 0x00000000#32
  let main_v1 : FVec F S1 .f32 := broadcastInDim S1 ![] bcast_S_S1 main_cst
  let main_v2 : IVec S1 1 := cmpf .oge main_v0 main_v1
  let main_cst_0 : FVec F S_ .f32 := constant S_ .f32 0x7F800000#32
  let main_v3 : FVec F S1 .f32 := broadcastInDim S1 ![] bcast_S_S1 main_cst_0
  let main_v4 : IVec S1 1 := cmpf .olt main_v0 main_v3
  let main_v5 : IVec S1 1 := andi main_v2 main_v4
  main_v5
-- ==== Kernel.lean ====
abbrev S4096x512 : Shape := ⟨2, ![4096, 512]⟩
abbrev S512x2048 : Shape := ⟨2, ![512, 2048]⟩
abbrev S1 : Shape := ⟨1, ![1]⟩
abbrev S4096x2048 : Shape := ⟨2, ![4096, 2048]⟩
abbrev S7x256x2048 : Shape := ⟨3, ![7, 256, 2048]⟩
abbrev S2x256x2048 : Shape := ⟨3, ![2, 256, 2048]⟩
abbrev S7 : Shape := ⟨1, ![7]⟩
abbrev S2 : Shape := ⟨1, ![2]⟩
abbrev S_ : Shape := ⟨0, ![]⟩
abbrev S256x512 : Shape := ⟨2, ![256, 512]⟩
abbrev S256x2048 : Shape := ⟨2, ![256, 2048]⟩
abbrev S1x256x2048 : Shape := ⟨3, ![1, 256, 2048]⟩

abbrev nBuf : Space → Nat
  | .hbm => 5
  | .vmem => 6
  | .smem => 2
  | _ => 0

abbrev bufTy : (tb : Table) → Fin (tcTables nBuf tb) → BufTy
  | .hbm, ⟨0, _⟩ => ⟨S4096x512, .fp8e5m2⟩
  | .hbm, ⟨1, _⟩ => ⟨S512x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x512, .fp8e5m2⟩
  | .local _ .vmem, ⟨1, _⟩ => ⟨S512x2048, .fp8e5m2⟩
  | .local _ .vmem, ⟨2, _⟩ => ⟨S7x256x2048, .f32⟩
  | .local _ .vmem, ⟨3, _⟩ => ⟨S7x256x2048, .f32⟩
  | .local _ .vmem, ⟨4, _⟩ => ⟨S2x256x2048, .f32⟩
  | .local _ .vmem, ⟨5, _⟩ => ⟨S2x256x2048, .f32⟩
  | .local _ .smem, ⟨0, _⟩ => ⟨S1, .f32⟩
  | .local _ .smem, ⟨1, _⟩ => ⟨S1, .f32⟩
  | _, _ => ⟨S4096x512, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_10 : BitVec 32 := 1#32
  let v18 : BitVec 32 := Scalar.muli v16 c1_i32_10
  let v19 : BitVec 32 := Scalar.addi c0_i32 v18
  v19.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_12 : BitVec 32 := 1#32
  let v20 : BitVec 32 := Scalar.muli v10 c1_i32_12
  let v21 : BitVec 32 := Scalar.addi c0_i32_13 v20
  v21.toNat
def k0_off1 (d0 : Dev nD) (c0_i32_16 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_15 : BitVec 32 := 8#32
  let v25 : BitVec 32 := Scalar.addi v5 c8_i32_15
  let v26 : BitVec 32 := Scalar.subi v25 c0_i32_16
  let c8_i32_17 : BitVec 32 := 8#32
  let v27 : BitVec 32 := Scalar.remsi v26 c8_i32_17
  let c512_i32 : BitVec 32 := 512#32
  let v28 : BitVec 32 := Scalar.muli v27 c512_i32
  let v29 : Index := Scalar.indexCast v28
  let c0_18 : Index := 0#32
  ![v29.toNat, 0]
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_28 : BitVec 32 := 1#32
  let v42 : BitVec 32 := Scalar.muli v10 c1_i32_28
  let v43 : BitVec 32 := Scalar.addi c0_i32_29 v42
  v43.toNat
def k0_off2 (d0 : Dev nD) (c0_i32_34 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v52 : BitVec 32 := Scalar.addi v5 c0_i32_34
  let c8_i32_35 : BitVec 32 := 8#32
  let v53 : BitVec 32 := Scalar.remsi v52 c8_i32_35
  let c512_i32_36 : BitVec 32 := 512#32
  let v54 : BitVec 32 := Scalar.muli v53 c512_i32_36
  let c256_i32 : BitVec 32 := 256#32
  let v55 : BitVec 32 := Scalar.addi v54 c256_i32
  let v56 : Index := Scalar.indexCast v55
  let c0_37 : Index := 0#32
  ![v56.toNat, 0]
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_48 : BitVec 32 := 1#32
  let v69 : BitVec 32 := Scalar.muli v16 c1_i32_48
  let v70 : BitVec 32 := Scalar.addi c0_i32_49 v69
  v70.toNat
def k0_dev5 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_109 : BitVec 32 := 1#32
  let v127 : BitVec 32 := Scalar.muli v10 c1_i32_109
  let v128 : BitVec 32 := Scalar.addi c0_i32_110 v127
  v128.toNat
def k0_dev6 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_133 : BitVec 32 := 1#32
  let v157 : BitVec 32 := Scalar.muli v16 c1_i32_133
  let v158 : BitVec 32 := Scalar.addi c0_i32_134 v157
  v158.toNat
def k0_dev7 (d0 : Dev nD) : Nat :=
  let c0_i32_196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_195 : BitVec 32 := 1#32
  let v215 : BitVec 32 := Scalar.muli v10 c1_i32_195
  let v216 : BitVec 32 := Scalar.addi c0_i32_196 v215
  v216.toNat
def k0_dev8 (d0 : Dev nD) : Nat :=
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_219 : BitVec 32 := 1#32
  let v245 : BitVec 32 := Scalar.muli v16 c1_i32_219
  let v246 : BitVec 32 := Scalar.addi c0_i32_220 v245
  v246.toNat
def k0_dev9 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_279 : BitVec 32 := 1#32
  let v303 : BitVec 32 := Scalar.muli v10 c1_i32_279
  let v304 : BitVec 32 := Scalar.addi c0_i32_280 v303
  v304.toNat
def k0_dev10 (d0 : Dev nD) : Nat :=
  let c0_i32_304 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_303 : BitVec 32 := 1#32
  let v333 : BitVec 32 := Scalar.muli v16 c1_i32_303
  let v334 : BitVec 32 := Scalar.addi c0_i32_304 v333
  v334.toNat
def k0_dev11 (d0 : Dev nD) : Nat :=
  let c0_i32_365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_364 : BitVec 32 := 1#32
  let v391 : BitVec 32 := Scalar.muli v10 c1_i32_364
  let v392 : BitVec 32 := Scalar.addi c0_i32_365 v391
  v392.toNat
def k0_dev12 (d0 : Dev nD) : Nat :=
  let c0_i32_389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_388 : BitVec 32 := 1#32
  let v421 : BitVec 32 := Scalar.muli v16 c1_i32_388
  let v422 : BitVec 32 := Scalar.addi c0_i32_389 v421
  v422.toNat
def k0_dev13 (d0 : Dev nD) : Nat :=
  let c0_i32_449 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_448 : BitVec 32 := 1#32
  let v479 : BitVec 32 := Scalar.muli v10 c1_i32_448
  let v480 : BitVec 32 := Scalar.addi c0_i32_449 v479
  v480.toNat
def k0_dev14 (d0 : Dev nD) : Nat :=
  let c0_i32_473 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_472 : BitVec 32 := 1#32
  let v509 : BitVec 32 := Scalar.muli v16 c1_i32_472
  let v510 : BitVec 32 := Scalar.addi c0_i32_473 v509
  v510.toNat
def k0_dev15 (d0 : Dev nD) : Nat :=
  let c0_i32_533 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_532 : BitVec 32 := 1#32
  let v567 : BitVec 32 := Scalar.muli v10 c1_i32_532
  let v568 : BitVec 32 := Scalar.addi c0_i32_533 v567
  v568.toNat
def k0_dev16 (d0 : Dev nD) : Nat :=
  let c0_i32_557 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_556 : BitVec 32 := 1#32
  let v597 : BitVec 32 := Scalar.muli v16 c1_i32_556
  let v598 : BitVec 32 := Scalar.addi c0_i32_557 v597
  v598.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_600 : BitVec 32 := 1#32
  let v635 : BitVec 32 := Scalar.addi v5 c1_i32_600
  let c8_i32_601 : BitVec 32 := 8#32
  let v636 : BitVec 32 := Scalar.remsi v635 c8_i32_601
  let c512_i32_602 : BitVec 32 := 512#32
  let v637 : BitVec 32 := Scalar.muli v636 c512_i32_602
  let v638 : Index := Scalar.indexCast v637
  let c0_603 : Index := 0#32
  ![v638.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_600 : BitVec 32 := 1#32
  let v635 : BitVec 32 := Scalar.addi v5 c1_i32_600
  let c8_i32_601 : BitVec 32 := 8#32
  let v636 : BitVec 32 := Scalar.remsi v635 c8_i32_601
  let c512_i32_612 : BitVec 32 := 512#32
  let v654 : BitVec 32 := Scalar.muli v636 c512_i32_612
  let c0_i32_615 : BitVec 32 := 0#32
  ![v654.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_618 : BitVec 32 := 8#32
  let v660 : BitVec 32 := Scalar.addi v5 c8_i32_618
  let c1_i32_619 : BitVec 32 := 1#32
  let v661 : BitVec 32 := Scalar.subi v660 c1_i32_619
  let c8_i32_620 : BitVec 32 := 8#32
  let v662 : BitVec 32 := Scalar.remsi v661 c8_i32_620
  let c512_i32_621 : BitVec 32 := 512#32
  let v663 : BitVec 32 := Scalar.muli v662 c512_i32_621
  let c256_i32_622 : BitVec 32 := 256#32
  let v664 : BitVec 32 := Scalar.addi v663 c256_i32_622
  let v665 : Index := Scalar.indexCast v664
  let c0_623 : Index := 0#32
  ![v665.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_618 : BitVec 32 := 8#32
  let v660 : BitVec 32 := Scalar.addi v5 c8_i32_618
  let c1_i32_619 : BitVec 32 := 1#32
  let v661 : BitVec 32 := Scalar.subi v660 c1_i32_619
  let c8_i32_620 : BitVec 32 := 8#32
  let v662 : BitVec 32 := Scalar.remsi v661 c8_i32_620
  let c512_i32_633 : BitVec 32 := 512#32
  let v681 : BitVec 32 := Scalar.muli v662 c512_i32_633
  let c256_i32_634 : BitVec 32 := 256#32
  let v682 : BitVec 32 := Scalar.addi v681 c256_i32_634
  let c0_i32_637 : BitVec 32 := 0#32
  ![v682.toNat, 0]
def k0_off7 (d0 : Dev nD) (c0_i32_652 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_650 : BitVec 32 := 1#32
  let v698 : BitVec 32 := Scalar.addi v5 c1_i32_650
  let c8_i32_651 : BitVec 32 := 8#32
  let v699 : BitVec 32 := Scalar.addi v698 c8_i32_651
  let v700 : BitVec 32 := Scalar.subi v699 c0_i32_652
  let c8_i32_653 : BitVec 32 := 8#32
  let v701 : BitVec 32 := Scalar.remsi v700 c8_i32_653
  let c512_i32_654 : BitVec 32 := 512#32
  let v702 : BitVec 32 := Scalar.muli v701 c512_i32_654
  let c0_i32_659 : BitVec 32 := 0#32
  ![v702.toNat, 0]
def k0_dev17 (d0 : Dev nD) : Nat :=
  let c0_i32_658 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_657 : BitVec 32 := 1#32
  let v703 : BitVec 32 := Scalar.muli v10 c1_i32_657
  let v704 : BitVec 32 := Scalar.addi c0_i32_658 v703
  v704.toNat
def k0_off8 (d0 : Dev nD) (c0_i32_663 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_661 : BitVec 32 := 8#32
  let v711 : BitVec 32 := Scalar.addi v5 c8_i32_661
  let c1_i32_662 : BitVec 32 := 1#32
  let v712 : BitVec 32 := Scalar.subi v711 c1_i32_662
  let v713 : BitVec 32 := Scalar.addi v712 c0_i32_663
  let c8_i32_664 : BitVec 32 := 8#32
  let v714 : BitVec 32 := Scalar.remsi v713 c8_i32_664
  let c512_i32_665 : BitVec 32 := 512#32
  let v715 : BitVec 32 := Scalar.muli v714 c512_i32_665
  let c256_i32_666 : BitVec 32 := 256#32
  let v716 : BitVec 32 := Scalar.addi v715 c256_i32_666
  let c0_i32_671 : BitVec 32 := 0#32
  ![v716.toNat, 0]
def k0_dev18 (d0 : Dev nD) : Nat :=
  let c0_i32_670 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_669 : BitVec 32 := 1#32
  let v717 : BitVec 32 := Scalar.muli v16 c1_i32_669
  let v718 : BitVec 32 := Scalar.addi c0_i32_670 v717
  v718.toNat
def k0_dev19 (d0 : Dev nD) : Nat :=
  let c0_i32_703 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_702 : BitVec 32 := 1#32
  let v750 : BitVec 32 := Scalar.muli v10 c1_i32_702
  let v751 : BitVec 32 := Scalar.addi c0_i32_703 v750
  v751.toNat
def k0_dev20 (d0 : Dev nD) : Nat :=
  let c0_i32_715 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_714 : BitVec 32 := 1#32
  let v764 : BitVec 32 := Scalar.muli v16 c1_i32_714
  let v765 : BitVec 32 := Scalar.addi c0_i32_715 v764
  v765.toNat
def k0_dev21 (d0 : Dev nD) : Nat :=
  let c0_i32_748 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_747 : BitVec 32 := 1#32
  let v797 : BitVec 32 := Scalar.muli v10 c1_i32_747
  let v798 : BitVec 32 := Scalar.addi c0_i32_748 v797
  v798.toNat
def k0_dev22 (d0 : Dev nD) : Nat :=
  let c0_i32_760 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_759 : BitVec 32 := 1#32
  let v811 : BitVec 32 := Scalar.muli v16 c1_i32_759
  let v812 : BitVec 32 := Scalar.addi c0_i32_760 v811
  v812.toNat
def k0_dev23 (d0 : Dev nD) : Nat :=
  let c0_i32_793 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_792 : BitVec 32 := 1#32
  let v844 : BitVec 32 := Scalar.muli v10 c1_i32_792
  let v845 : BitVec 32 := Scalar.addi c0_i32_793 v844
  v845.toNat
def k0_dev24 (d0 : Dev nD) : Nat :=
  let c0_i32_805 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_804 : BitVec 32 := 1#32
  let v858 : BitVec 32 := Scalar.muli v16 c1_i32_804
  let v859 : BitVec 32 := Scalar.addi c0_i32_805 v858
  v859.toNat
def k0_dev25 (d0 : Dev nD) : Nat :=
  let c0_i32_838 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_837 : BitVec 32 := 1#32
  let v891 : BitVec 32 := Scalar.muli v10 c1_i32_837
  let v892 : BitVec 32 := Scalar.addi c0_i32_838 v891
  v892.toNat
def k0_dev26 (d0 : Dev nD) : Nat :=
  let c0_i32_850 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_849 : BitVec 32 := 1#32
  let v905 : BitVec 32 := Scalar.muli v16 c1_i32_849
  let v906 : BitVec 32 := Scalar.addi c0_i32_850 v905
  v906.toNat
def k0_dev27 (d0 : Dev nD) : Nat :=
  let c0_i32_883 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_882 : BitVec 32 := 1#32
  let v938 : BitVec 32 := Scalar.muli v10 c1_i32_882
  let v939 : BitVec 32 := Scalar.addi c0_i32_883 v938
  v939.toNat
def k0_dev28 (d0 : Dev nD) : Nat :=
  let c0_i32_895 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_894 : BitVec 32 := 1#32
  let v952 : BitVec 32 := Scalar.muli v16 c1_i32_894
  let v953 : BitVec 32 := Scalar.addi c0_i32_895 v952
  v953.toNat
def k0_dev29 (d0 : Dev nD) : Nat :=
  let c0_i32_928 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_927 : BitVec 32 := 1#32
  let v985 : BitVec 32 := Scalar.muli v10 c1_i32_927
  let v986 : BitVec 32 := Scalar.addi c0_i32_928 v985
  v986.toNat
def k0_dev30 (d0 : Dev nD) : Nat :=
  let c0_i32_940 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_939 : BitVec 32 := 1#32
  let v999 : BitVec 32 := Scalar.muli v16 c1_i32_939
  let v1000 : BitVec 32 := Scalar.addi c0_i32_940 v999
  v1000.toNat
abbrev stage0_0 : Fin 1 → Memref sig .tc .vmem S4096x512 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e5m2⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Prog.lean ====
/-
# The kernel's body as a walk of a ring

The body runs two rings at once, one clockwise and one counter-clockwise, and does the same things on
both: seven steps of a reduce-scatter, the last block, and seven steps of an all-gather. Here the
buffers, the semaphores and the steps are written once for a side `s` (`false` clockwise, `true`
counter-clockwise) and a step number, and the printed body is shown to be these steps in order.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen
open Idealize.ShloMosaic
open Idealize.ShloMosaic.TcCoe
open Idealize.SL Idealize.SL.Sem

variable {F : FTy → Type} [FloatOps F]

/-! ## Buffers and semaphores -/

abbrev xM : Memref sig .tc .vmem S4096x512 .fp8e5m2 := Memref.whole cc0_stg0_0
abbrev wM : Memref sig .tc .vmem S512x2048 .fp8e5m2 := Memref.whole cc0_stg1_0
abbrev sxM : Memref sig .tc .smem S1 .f32 := Memref.whole cc0_stg2_0
abbrev swM : Memref sig .tc .smem S1 .f32 := Memref.whole cc0_stg3_0
abbrev outM : Memref sig .tc .hbm S4096x2048 .f32 := Memref.whole main_v1

/-- The landing buffer of side `s`, one slot for each step. -/
def commR : Bool → Ref sig .tc
  | false => cc0_scratch0
  | true => cc0_scratch1

/-- The two accumulators of side `s`. -/
def accR : Bool → Ref sig .tc
  | false => cc0_scratch2
  | true => cc0_scratch3

def commM : Bool → Memref sig .tc .vmem S7x256x2048 .f32
  | false => Memref.whole cc0_scratch0
  | true => Memref.whole cc0_scratch1

def accM : Bool → Memref sig .tc .vmem S2x256x2048 .f32
  | false => Memref.whole cc0_scratch2
  | true => Memref.whole cc0_scratch3

/-- A step's place among the seven. -/
def f7 (n : ℕ) : Fin 7 := ⟨n % 7, Nat.mod_lt _ (by decide)⟩

/-- Which accumulator step `n` uses. -/
def f2 (n : ℕ) : Fin 2 := ⟨n % 2, Nat.mod_lt _ (by decide)⟩

theorem inbComm (t : Fin 7) : ∀ a, (![t.val, 0, 0] : Fin 3 → ℕ) a + S1x256x2048.size a ≤ S7x256x2048.size a := by
  revert t; decide

theorem inbAcc (p : Fin 2) : ∀ a, (![p.val, 0, 0] : Fin 3 → ℕ) a + S1x256x2048.size a ≤ S2x256x2048.size a := by
  revert p; decide

theorem inbSem (t : Fin 7) : ∀ a, (![t.val] : Fin 1 → ℕ) a + S1.size a ≤ S7.size a := by
  revert t; decide

theorem inbLoc (p : Fin 2) : ∀ a, (![p.val] : Fin 1 → ℕ) a + S1.size a ≤ S2.size a := by
  revert p; decide

abbrev commRect (t : Fin 7) := Rect.unit (s := S7x256x2048) ![t.val, 0, 0] S1x256x2048.size (inbComm t)
abbrev accRect (p : Fin 2) := Rect.unit (s := S2x256x2048) ![p.val, 0, 0] S1x256x2048.size (inbAcc p)

/-- Slot `t` of the landing buffer, as a matrix. -/
def commSlot (s : Bool) (t : Fin 7) : Memref sig .tc .vmem S256x2048 .f32 :=
  ((commM s).slice (commRect t) (fun _ => rfl)).squeeze S256x2048 squeezes_S1x256x2048_S256x2048

/-- Accumulator `p`, as a matrix. -/
def accSlot (s : Bool) (p : Fin 2) : Memref sig .tc .vmem S256x2048 .f32 :=
  ((accM s).slice (accRect p) (fun _ => rfl)).squeeze S256x2048 squeezes_S1x256x2048_S256x2048

/-- 256 rows of the output from the row `o 0` on. -/
def outRows (o : Fin 2 → ℕ) (h : ∀ a, o a + S256x2048.size a ≤ S4096x2048.size a) : Memref sig .tc .hbm S256x2048 .f32 :=
  outM.slice (Rect.unit (s := S4096x2048) o S256x2048.size h) (fun _ => rfl)

/-- The seven semaphores of a phase (`false` reduce-scatter, `true` all-gather), a side, and an end
    (`false` the sender's, `true` the receiver's). -/
def semsOf : Bool → Bool → Bool → DmaSems sig S7
  | false, false, false => cc0_scratch4
  | false, false, true => cc0_scratch5
  | false, true, false => cc0_scratch6
  | false, true, true => cc0_scratch7
  | true, false, false => cc0_scratch8
  | true, false, true => cc0_scratch9
  | true, true, false => cc0_scratch10
  | true, true, true => cc0_scratch11

def xsem (ph s rc : Bool) (t : Fin 7) : DmaSem sig :=
  (((semsOf ph s rc).slice (Rect.unit (s := S7) ![t.val] S1.size (inbSem t))).squeeze S_ squeezes_S1_S_).sem

def lsem : Bool → DmaSem sig
  | false => ((cc0_scratch12.slice (Rect.unit (s := S2) ![0] S1.size inb_S2_S1_0)).squeeze S_ squeezes_S1_S_).sem
  | true => ((cc0_scratch12.slice (Rect.unit (s := S2) ![1] S1.size inb_S2_S1_1)).squeeze S_ squeezes_S1_S_).sem

/-! ## What one block computes -/

/-- One block of the product, scaled. -/
def gemm (x : Vec F S256x512 .fp8e5m2) (w : Vec F S512x2048 .fp8e5m2) (sc : F .f32) : FVec F S256x2048 .f32 :=
  mulf (matmul dot_S256x512_S512x2048_S256x2048_1_0_0_1_n_n none
      (extf .bf16 (shapeCast S256x512 x shapeCasts_S256x512_S256x512) bitsLt_fp8e5m2_bf16)
      (extf .bf16 (shapeCast S512x2048 w shapeCasts_S512x2048_S512x2048) bitsLt_fp8e5m2_bf16)
      (constant S256x2048 .f32 0x00000000#32))
    (broadcast S256x2048 sc)

abbrev asSlot (v : FVec F S256x2048 .f32) : FVec F S1x256x2048 .f32 := shapeCast S1x256x2048 v shapeCasts_S256x2048_S1x256x2048
abbrev ofSlot (v : Vec F S1x256x2048 .f32) : FVec F S256x2048 .f32 := shapeCast S256x2048 v shapeCasts_S1x256x2048_S256x2048

/-! ## The steps -/

abbrev TProg (F : FTy → Type) [FloatOps F] (α : Type) := Prog (TpuEff nD τ sig (Elt F) Λ₀ .tc) α

/-- Load the block of `x` at the offset `o` and all of `w`, and multiply. -/
def ldGemm (sc : F .f32) (o : Fin 2 → ℕ) (h : ∀ a, o a + S256x512.size a ≤ S4096x512.size a) : TProg F (FVec F S256x2048 .f32) := do
  let x ← Prog.lift (.load xM (Rect.unit (s := S4096x512) o S256x512.size h).toLoadRect (View.loadsAt_vmem h_S256x512))
  let w ← Prog.lift (.load wM (Rect.unit (s := S512x2048) ![0, 0] S512x2048.size inb_S512x2048_S512x2048_0_0).toLoadRect (View.loadsAt_vmem h_S512x2048))
  pure (gemm x w sc)

/-- Store a matrix in an accumulator (the value there before is loaded and dropped). -/
def stAcc (s : Bool) (p : Fin 2) (v : FVec F S256x2048 .f32) : TProg F PUnit := do
  let _ ← Prog.lift (.load (accM s) (accRect p).toLoadRect (View.loadsAt_vmem h_S1x256x2048))
  Prog.lift (.store (accM s) (accRect p) (asSlot v) Finset.univ (View.stores_vmem_bits_univ h_S1x256x2048 rfl) (.inl rfl))

/-- The first block into an accumulator. -/
def first (s : Bool) (p : Fin 2) (sc : F .f32) (o : Fin 2 → ℕ) (h : ∀ a, o a + S256x512.size a ≤ S4096x512.size a) : TProg F PUnit := do
  let g ← ldGemm sc o h
  stAcc s p g

/-- A later block, added to what has landed in slot `t`. -/
def later (s : Bool) (p : Fin 2) (t : Fin 7) (sc : F .f32) (o : Fin 2 → ℕ) (h : ∀ a, o a + S256x512.size a ≤ S4096x512.size a) : TProg F PUnit := do
  let g ← ldGemm sc o h
  let v ← Prog.lift (.load (commM s) (commRect t).toLoadRect (View.loadsAt_vmem h_S1x256x2048))
  stAcc s p (addf g (ofSlot v))

/-- Send accumulator `p` into slot `t` of device `d`. -/
def rsSend (s : Bool) (t : Fin 7) (p : Fin 2) (d : Dev nD) : TProg F PUnit :=
  Prog.lift (.enqueueDma (accSlot s p) (.remote (Dev.tc d) (commSlot s t) (.dma (xsem false s false t))) (.dma (xsem false s true t))
    (View.wordExact_bits (by rfl)) (View.wordExact_bits (by rfl)) ⟨⟨rfl, Or.inl rfl⟩, trivial⟩)

/-- Wait for both ends of a step of the reduce-scatter. -/
def rsWait (s : Bool) (t : Fin 7) (p : Fin 2) : TProg F PUnit := do
  Prog.lift (.waitDma2 (xsem false s false t) (commSlot s t) (accSlot s p) (View.wordExact_bits (by rfl)) (View.wordExact_bits (by rfl)))
  Prog.lift (.waitDma2 (xsem false s true t) (accSlot s p) (commSlot s t) (View.wordExact_bits (by rfl)) (View.wordExact_bits (by rfl)))

/-- Copy accumulator 0 into this device's own rows of the output. -/
def ownCopy (s : Bool) (o : Fin 2 → ℕ) (h : ∀ a, o a + S256x2048.size a ≤ S4096x2048.size a) : TProg F PUnit :=
  Prog.lift (.enqueueDma (accSlot s 0) (.here (outRows o h)) (.dma (lsem s)) (View.wordExact_bits (by rfl)) (View.wordExact_bits (by rfl)) ⟨Or.inl rfl, trivial⟩)

def ownWait (s : Bool) (o : Fin 2 → ℕ) (h : ∀ a, o a + S256x2048.size a ≤ S4096x2048.size a) : TProg F PUnit :=
  Prog.lift (.waitDma2 (lsem s) (accSlot s 0) (outRows o h) (View.wordExact_bits (by rfl)) (View.wordExact_bits (by rfl)))

/-- Send rows of the output to the same rows of device `d`. -/
def agSend (s : Bool) (t : Fin 7) (d : Dev nD) (o : Fin 2 → ℕ) (h : ∀ a, o a + S256x2048.size a ≤ S4096x2048.size a) : TProg F PUnit :=
  Prog.lift (.enqueueDma (outRows o h) (.remote (Dev.tc d) (outRows o h) (.dma (xsem true s false t))) (.dma (xsem true s true t))
    (View.wordExact_bits (by rfl)) (View.wordExact_bits (by rfl)) ⟨⟨rfl, Or.inl rfl⟩, trivial⟩)

def agWait (s : Bool) (t : Fin 7) (o : Fin 2 → ℕ) (h : ∀ a, o a + S256x2048.size a ≤ S4096x2048.size a) : TProg F PUnit := do
  Prog.lift (.waitDma2 (xsem true s false t) (outRows o h) (outRows o h) (View.wordExact_bits (by rfl)) (View.wordExact_bits (by rfl)))
  Prog.lift (.waitDma2 (xsem true s true t) (outRows o h) (outRows o h) (View.wordExact_bits (by rfl)) (View.wordExact_bits (by rfl)))

/-- The first step of the reduce-scatter, both sides. -/
def rsStep0 (sc : F .f32) (d e : Dev nD) (o : Fin 2 → ℕ) (h : ∀ a, o a + S256x512.size a ≤ S4096x512.size a)
    (o' : Fin 2 → ℕ) (h' : ∀ a, o' a + S256x512.size a ≤ S4096x512.size a) : TProg F PUnit := do
  first false 0 sc o h
  rsSend false 0 0 d
  first true 0 sc o' h'
  rsSend true 0 0 e
  rsWait false 0 0
  rsWait true 0 0

/-- Step `n + 1` of the reduce-scatter, both sides. -/
def rsStep (n : ℕ) (sc : F .f32) (d e : Dev nD) (o : Fin 2 → ℕ) (h : ∀ a, o a + S256x512.size a ≤ S4096x512.size a)
    (o' : Fin 2 → ℕ) (h' : ∀ a, o' a + S256x512.size a ≤ S4096x512.size a) : TProg F PUnit := do
  later false (f2 (n + 1)) (f7 n) sc o h
  rsSend false (f7 (n + 1)) (f2 (n + 1)) d
  later true (f2 (n + 1)) (f7 n) sc o' h'
  rsSend true (f7 (n + 1)) (f2 (n + 1)) e
  rsWait false (f7 (n + 1)) (f2 (n + 1))
  rsWait true (f7 (n + 1)) (f2 (n + 1))

/-- A step of the all-gather, both sides. -/
def agStep (n : ℕ) (d e : Dev nD) (o : Fin 2 → ℕ) (h : ∀ a, o a + S256x2048.size a ≤ S4096x2048.size a)
    (o' : Fin 2 → ℕ) (h' : ∀ a, o' a + S256x2048.size a ≤ S4096x2048.size a) : TProg F PUnit := do
  agSend false (f7 n) d o h
  agSend true (f7 n) e o' h'
  agWait false (f7 n) o h
  agWait true (f7 n) o' h'

/-- This device's own block, both sides. -/
def ownStep (sc : F .f32) (o : Fin 2 → ℕ) (h : ∀ a, o a + S256x512.size a ≤ S4096x512.size a)
    (q : Fin 2 → ℕ) (g : ∀ a, q a + S256x2048.size a ≤ S4096x2048.size a)
    (o' : Fin 2 → ℕ) (h' : ∀ a, o' a + S256x512.size a ≤ S4096x512.size a)
    (q' : Fin 2 → ℕ) (g' : ∀ a, q' a + S256x2048.size a ≤ S4096x2048.size a) : TProg F PUnit := do
  later false 0 6 sc o h
  ownCopy false q g
  later true 0 6 sc o' h'
  ownCopy true q' g'
  ownWait false q g
  ownWait true q' g'

/-- The handshake: a signal to each neighbour, and a wait for theirs. -/
def shake (d e : Dev nD) : TProg F PUnit := do
  semSignalWord d (SemArray.scalar (sig.barrier 0 rfl) : Sems sig S_).sem 1#32
  semSignalWord e (SemArray.scalar (sig.barrier 0 rfl) : Sems sig S_).sem 1#32
  semWaitWord (SemArray.scalar (sig.barrier 0 rfl) : Sems sig S_).sem 2#32

/-- The two scales, multiplied. -/
def scaleOf : TProg F (F .f32) := do
  let a ← smemLoad sxM (Rect.unit (s := S1) ![0] S1.size inb_S1_S1_0) numel1_S1 rfl
  let b ← smemLoad swM (Rect.unit (s := S1) ![0] S1.size inb_S1_S1_0) numel1_S1 rfl
  pure (k0_pay1 a b)

/-- The body of device `c`. -/
def walk (c : Dev nD) : TProg F PUnit := do
  shake ⟨k0_dev1 c, k0_dev1_lt c⟩ ⟨k0_dev2 c, k0_dev2_lt c⟩
  let sc ← scaleOf
  rsStep0 sc ⟨k0_dev3 c, k0_dev3_lt c⟩ ⟨k0_dev4 c, k0_dev4_lt c⟩ (k0_off1 c 0#32) (k0_off1_inb c 0) (k0_off2 c 0#32) (k0_off2_inb c 0)
  rsStep 0 sc ⟨k0_dev5 c, k0_dev5_lt c⟩ ⟨k0_dev6 c, k0_dev6_lt c⟩ (k0_off1 c 1#32) (k0_off1_inb c 1) (k0_off2 c 1#32) (k0_off2_inb c 1)
  rsStep 1 sc ⟨k0_dev7 c, k0_dev7_lt c⟩ ⟨k0_dev8 c, k0_dev8_lt c⟩ (k0_off1 c 2#32) (k0_off1_inb c 2) (k0_off2 c 2#32) (k0_off2_inb c 2)
  rsStep 2 sc ⟨k0_dev9 c, k0_dev9_lt c⟩ ⟨k0_dev10 c, k0_dev10_lt c⟩ (k0_off1 c 3#32) (k0_off1_inb c 3) (k0_off2 c 3#32) (k0_off2_inb c 3)
  rsStep 3 sc ⟨k0_dev11 c, k0_dev11_lt c⟩ ⟨k0_dev12 c, k0_dev12_lt c⟩ (k0_off1 c 4#32) (k0_off1_inb c 4) (k0_off2 c 4#32) (k0_off2_inb c 4)
  rsStep 4 sc ⟨k0_dev13 c, k0_dev13_lt c⟩ ⟨k0_dev14 c, k0_dev14_lt c⟩ (k0_off1 c 5#32) (k0_off1_inb c 5) (k0_off2 c 5#32) (k0_off2_inb c 5)
  rsStep 5 sc ⟨k0_dev15 c, k0_dev15_lt c⟩ ⟨k0_dev16 c, k0_dev16_lt c⟩ (k0_off1 c 6#32) (k0_off1_inb c 6) (k0_off2 c 6#32) (k0_off2_inb c 6)
  ownStep sc (k0_off3 c) (k0_off3_inb c) (k0_off4 c) (k0_off4_inb c) (k0_off5 c) (k0_off5_inb c) (k0_off6 c) (k0_off6_inb c)
  agStep 0 ⟨k0_dev17 c, k0_dev17_lt c⟩ ⟨k0_dev18 c, k0_dev18_lt c⟩ (k0_off7 c 0#32) (k0_off7_inb c 0) (k0_off8 c 0#32) (k0_off8_inb c 0)
  agStep 1 ⟨k0_dev19 c, k0_dev19_lt c⟩ ⟨k0_dev20 c, k0_dev20_lt c⟩ (k0_off7 c 1#32) (k0_off7_inb c 1) (k0_off8 c 1#32) (k0_off8_inb c 1)
  agStep 2 ⟨k0_dev21 c, k0_dev21_lt c⟩ ⟨k0_dev22 c, k0_dev22_lt c⟩ (k0_off7 c 2#32) (k0_off7_inb c 2) (k0_off8 c 2#32) (k0_off8_inb c 2)
  agStep 3 ⟨k0_dev23 c, k0_dev23_lt c⟩ ⟨k0_dev24 c, k0_dev24_lt c⟩ (k0_off7 c 3#32) (k0_off7_inb c 3) (k0_off8 c 3#32) (k0_off8_inb c 3)
  agStep 4 ⟨k0_dev25 c, k0_dev25_lt c⟩ ⟨k0_dev26 c, k0_dev26_lt c⟩ (k0_off7 c 4#32) (k0_off7_inb c 4) (k0_off8 c 4#32) (k0_off8_inb c 4)
  agStep 5 ⟨k0_dev27 c, k0_dev27_lt c⟩ ⟨k0_dev28 c, k0_dev28_lt c⟩ (k0_off7 c 5#32) (k0_off7_inb c 5) (k0_off8 c 5#32) (k0_off8_inb c 5)
  agStep 6 ⟨k0_dev29 c, k0_dev29_lt c⟩ ⟨k0_dev30 c, k0_dev30_lt c⟩ (k0_off7 c 6#32) (k0_off7_inb c 6) (k0_off8 c 6#32) (k0_off8_inb c 6)

end Cert.RingProof

end
-- ==== Proof.Ring.lean ====
/-
# The ring: who is next, which block goes when, and what each step carries

The eight devices stand in a ring in the order 0, 1, 2, 3, 7, 6, 5, 4. On side `false` everything moves
one place forward, on side `true` one place back. At step `n` device `c` works on the block of rows
`chk s c n`: what it sends on at step `n` its neighbour calls `chk s _ (n + 1)`.
-/
module

public import proofs.«01_k».proof.Proof.Prog

@[expose] public section

noncomputable section

namespace Cert.RingProof

open Cert.KernelIdeal Cert.KernelIdeal.Gen
open Idealize.ShloMosaic
open Idealize.ShloMosaic.TcCoe
open Idealize.SL Idealize.SL.Sem

variable {F : FTy → Type} [FloatOps F]

/-! ## Places and neighbours -/

/-- The place of device `c` in the ring. -/
def rank (c : Dev nD) : ℕ := if c.val < 4 then c.val else 11 - c.val

set_option backward.proofsInPublic true in
/-- The device at place `r`. -/
def posn (r : ℕ) : Dev nD := ⟨if r % 8 < 4 then r % 8 else 11 - r % 8, by
  show _ < 8
  split <;> omega⟩

/-- The device side `s` sends to. -/
def nxt (s : Bool) (c : Dev nD) : Dev nD := posn (rank c + if s then 7 else 1)

/-- The device side `s` receives from. -/
def prv (s : Bool) (c : Dev nD) : Dev nD := nxt (!s) c

theorem prv_nxt (s : Bool) (c : Dev nD) : prv s (nxt s c) = c := by revert s c; decide
theorem nxt_prv (s : Bool) (c : Dev nD) : nxt s (prv s c) = c := by revert s c; decide
theorem rank_lt (c : Dev nD) : rank c < 8 := by revert c; decide
theorem rank_nxt (s : Bool) (c : Dev nD) : rank (nxt s c) = (rank c + if s then 7 else 1) % 8 := by revert s c; decide

def ring (s : Bool) : Dev nD ≃ Dev nD := ⟨nxt s, prv s, prv_nxt s, nxt_prv s⟩

/-! ## Blocks of rows -/

set_option backward.proofsInPublic true in
/-- The block of rows side `s` of device `c` works on at step `n`: one down per step clockwise, one up
    per step counter-clockwise. -/
def chk (s : Bool) (c : Dev nD) (n : ℕ) : Fin 8 := ⟨(rank c + if s then n else 7 * n) % 8, Nat.mod_lt _ (by decide)⟩

theorem chk_nxt (s : Bool) (c : Dev nD) (n : ℕ) : chk s (nxt s c) (n + 1) = chk s c n := by
  apply Fin.ext
  simp only [chk, rank_nxt]
  cases s <;> simp <;> omega

theorem chk_prv (s : Bool) (c : Dev nD) (n : ℕ) : chk s (prv s c) n = chk s c (n + 1) := by
  conv_rhs => rw [← nxt_prv s c]
  exact (chk_nxt s (prv s c) n).symm

theorem chk_add_eight (s : Bool) (c : Dev nD) (n : ℕ) : chk s c (n + 8) = chk s c n := by
  apply Fin.ext
  simp only [chk]
  cases s <;> simp <;> omega

/-- The first row of side `s` of block `k`. -/
abbrev rowOf (s : Bool) (k : Fin 8) : ℕ := 512 * k.val + if s then 256 else 0

theorem inbPiece (s : Bool) (k : Fin 8) : ∀ a, (![rowOf s k, 0] : Fin 2 → ℕ) a + S256x2048.size a ≤ S4096x2048.size a := by
  revert s k; decide
theorem inbX (s : Bool) (k : Fin 8) : ∀ a, (![rowOf s k, 0] : Fin 2 → ℕ) a + S256x512.size a ≤ S4096x512.size a := by
  revert s k; decide

/-- Side `s` of block `k` of the output. -/
def piece (s : Bool) (k : Fin 8) : Memref sig .tc .hbm S256x2048 .f32 := outRows ![rowOf s k, 0] (inbPiece s k)

/-! ## The printed offsets and device words -/

theorem off1_eq (c : Dev nD) (r : Fin 7) : k0_off1 c (BitVec.ofNat 32 r.val) = ![rowOf false (chk false c r.val), 0] := by
  revert c r; decide +kernel
theorem off2_eq (c : Dev nD) (r : Fin 7) : k0_off2 c (BitVec.ofNat 32 r.val) = ![rowOf true (chk true c r.val), 0] := by
  revert c r; decide +kernel
theorem off3_eq (c : Dev nD) : k0_off3 c = ![rowOf false (chk false c 7), 0] := by revert c; decide +kernel
theorem off4_eq (c : Dev nD) : k0_off4 c = ![rowOf false (chk false c 7), 0] := by revert c; decide +kernel
theorem off5_eq (c : Dev nD) : k0_off5 c = ![rowOf true (chk true c 7), 0] := by revert c; decide +kernel
theorem off6_eq (c : Dev nD) : k0_off6 c = ![rowOf true (chk true c 7), 0] := by revert c; decide +kernel
theorem off7_eq (c : Dev nD) (r : Fin 7) : k0_off7 c (BitVec.ofNat 32 r.val) = ![rowOf false (chk false c (7 + r.val)), 0] := by
  revert c r; decide +kernel
theorem off8_eq (c : Dev nD) (r : Fin 7) : k0_off8 c (BitVec.ofNat 32 r.val) = ![rowOf true (chk true c (7 + r.val)), 0] := by
  revert c r; decide +kernel

/-- A device word of the printed program that names the neighbour of side `s`. -/
theorem dev_of {s : Bool} (f : Dev nD → ℕ) (h : ∀ c, f c < nD) (e : ∀ c, f c = (nxt s c).val) (c : Dev nD) :
    (⟨f c, h c⟩ : Dev nD) = nxt s c := Fin.ext (e c)

/-! ## Contents -/

/-- What the devices start from: each one's blocks of `x` and `w`, and the two scales. -/
structure Inp (F : FTy → Type) [FloatOps F] where
  x : Dev nD → (cc0_stg0_0 : Ref sig .tc).ty.Contents (Elt F)
  w : Dev nD → (cc0_stg1_0 : Ref sig .tc).ty.Contents (Elt F)
  sx : Dev nD → (cc0_stg2_0 : Ref sig .tc).ty.Contents (Elt F)
  sw : Dev nD → (cc0_stg3_0 : Ref sig .tc).ty.Contents (Elt F)

namespace Inp

variable (I : Inp F)

/-- The product of the two scales on device `c`. -/
def scale (c : Dev nD) : F .f32 :=
  k0_pay1
    ((sxM.access (Rect.unit (s := S1) ![0] S1.size inb_S1_S1_0)).read (Elt F) (I.sx c) (Shape.Idx.first (numel1_S1.symm ▸ Nat.one_pos)))
    ((swM.access (Rect.unit (s := S1) ![0] S1.size inb_S1_S1_0)).read (Elt F) (I.sw c) (Shape.Idx.first (numel1_S1.symm ▸ Nat.one_pos)))

/-- Device `c`'s contribution to side `s` of block `k`. -/
def part (c : Dev nD) (s : Bool) (k : Fin 8) : FVec F S256x2048 .f32 :=
  gemm (xM.view.readAt (Elt F) (Rect.unit (s := S4096x512) ![rowOf s k, 0] S256x512.size (inbX s k)).toLoadRect (I.x c))
    (wM.view.readAt (Elt F) (Rect.unit (s := S512x2048) ![0, 0] S512x2048.size inb_S512x2048_S512x2048_0_0).toLoadRect (I.w c))
    (I.scale c)

/-- The partial sum device `c` holds at step `n` of side `s`: its own contribution to the block, added to
    what its predecessor held one step before. -/
def acc (s : Bool) : ℕ → Dev nD → FVec F S256x2048 .f32
  | 0, c => I.part c s (chk s c 0)
  | n + 1, c => addf (I.part c s (chk s c (n + 1))) (acc s n (prv s c))

/-- The finished block device `c` holds at step `t` of the all-gather: its own at first, then its
    predecessor's. -/
def fin (s : Bool) : ℕ → Dev nD → FVec F S256x2048 .f32
  | 0, c => I.acc s 7 c
  | t + 1, c => fin s t (prv s c)

end Inp

end Cert.RingProof

end
-- ==== Proof.Sched.lean ====
/-
# The protocol

Every semaphore of the kernel is one cell, used for one round.

* The barrier cell of a device has two duties of one unit, one for each side. The duty of side `s` is paid by
  the device `nxt s c` side `s` sends to, and hands over the places side `s` will write there: its seven
  landing slots, and the seven pieces of its output that it does not compute itself.
* The receive cell of a reduce-scatter step hands the landing slot, holding the sender's partial sum; its
  send cell hands the accumulator back.
* The receive cell of an all-gather step hands a finished piece of the output; its send cell hands back the
  piece that was sent.
* The cell of a local copy hands this device's own finished piece and the accumulator it was copied from.

A device owes one unit to each neighbour's barrier and one transfer to each receive cell of its
neighbours, in program order; the levels go up in that order, so that no wait can be part of a circle.
-/
module

public import proofs.«01_k».proof.Proof.Ring

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

/-- The resources of the proof. -/
abbrev MM (F : FTy → Type) [FloatOps F] : Type := MT nD τ sig Unit (Elt F) ℕ UU ℕ
local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

abbrev barS : Sem sig := (SemArray.scalar (sig.barrier 0 rfl) : Sems sig S_).sem

/-- The kernel's own semaphores: those of the transfers (phase, side, end, step), and of the two local copies. -/
abbrev Own : Type := (Bool × Bool × Bool × Fin 7) ⊕ Bool

/-- The kernel's own semaphore of a name. -/
def osem : Own → SemLoc sig
  | .inl (ph, s, rc, t) => .dma (xsem ph s rc t)
  | .inr s => .dma (lsem s)

/-- All of them, the barrier first. -/
def csem : Option Own → SemLoc sig
  | none => .reg barS
  | some k => osem k

abbrev barCell (c : Dev nD) : GSem nD τ sig := ((c : Thread nD τ), .reg barS)
abbrev xCell (ph s rc : Bool) (t : Fin 7) (c : Dev nD) : GSem nD τ sig := ((c : Thread nD τ), .dma (xsem ph s rc t))
abbrev lCell (s : Bool) (c : Dev nD) : GSem nD τ sig := ((c : Thread nD τ), .dma (lsem s))

/-- What a semaphore is for. -/
inductive Role where
  | stage
  | xfer (ph s rc : Bool) (t : Fin 7)
  | loc (s : Bool)

/-- Read off its number. -/
def role (v : DmaSem sig) : Role :=
  if v.val < 4 then .stage
  else if v.val < 60 then
    .xfer (decide ((v.val - 4) / 28 = 1)) (decide ((v.val - 4) / 14 % 2 = 1)) (decide ((v.val - 4) / 7 % 2 = 1)) (f7 (v.val - 4))
  else .loc (decide (v.val = 61))

/-- The number of the semaphore at place `t` of seven that start at `base`. -/
theorem one_of_seven {base : ℕ} (h : base + S7.numel ≤ 62) (t : Fin 7) :
    ((((SemArray.consecutive base S7 h).slice (Rect.unit (s := S7) ![t.val] S1.size (inbSem t))).squeeze S_ squeezes_S1_S_).sem : Fin 62).val
      = base + t.val := by
  show base + (S7.rowMajor _).val = _
  rw [Shape.rowMajor_val_one]
  generalize hy : (Shape.reshapeEquiv (squeezes_S1_S_).numel_eq fun i => i.elim0 : S1.Idx) = y
  have h0 : (y 0).val = 0 := by have := (y 0).isLt; exact Nat.lt_one_iff.mp this
  show base + (t.val + 1 * (y 0).val) = base + t.val
  omega

/-- The number of a transfer's semaphore. -/
theorem xsem_val (ph s rc : Bool) (t : Fin 7) : (xsem ph s rc t).val =
    4 + (if ph then 28 else 0) + (if s then 14 else 0) + (if rc then 7 else 0) + t.val := by
  cases ph <;> cases s <;> cases rc
  · exact one_of_seven Facts₀.hcc0_scratch4 t
  · exact one_of_seven Facts₀.hcc0_scratch5 t
  · exact one_of_seven Facts₀.hcc0_scratch6 t
  · exact one_of_seven Facts₀.hcc0_scratch7 t
  · exact one_of_seven Facts₀.hcc0_scratch8 t
  · exact one_of_seven Facts₀.hcc0_scratch9 t
  · exact one_of_seven Facts₀.hcc0_scratch10 t
  · exact one_of_seven Facts₀.hcc0_scratch11 t

theorem role_xsem (ph s rc : Bool) (t : Fin 7) : role (xsem ph s rc t) = .xfer ph s rc t := by
  have ht := t.isLt
  have hr : ∀ n, n % 7 = t.val → f7 n = t := fun n hn => Fin.ext hn
  unfold role
  rw [xsem_val]
  cases ph <;> cases s <;> cases rc <;> simp only [if_true, if_false, Bool.false_eq_true, Nat.add_zero] <;>
    (rw [if_neg (by omega), if_pos (by omega), hr _ (by omega)]; congr 1 <;> simp <;> omega)
theorem role_lsem (s : Bool) : role (lsem s) = .loc s := by cases s <;> rfl
theorem xsem_ge (ph s rc : Bool) (t : Fin 7) : ¬ (xsem ph s rc t).val < 4 := by
  rw [xsem_val]; omega
theorem lsem_ge (s : Bool) : ¬ (lsem s).val < 4 := by cases s <;> decide

theorem xsem_inj {ph s rc ph' s' rc' : Bool} {t t' : Fin 7} (h : xsem ph s rc t = xsem ph' s' rc' t') :
    ph = ph' ∧ s = s' ∧ rc = rc' ∧ t = t' := by
  have e := congrArg role h
  rw [role_xsem, role_xsem] at e
  exact ⟨by injection e, by injection e, by injection e, by injection e⟩

theorem csem_injective : Function.Injective csem := by
  intro a b h
  match a, b, h with
  | none, none, _ => rfl
  | none, some (.inl (_, _, _, _)), h => exact absurd h (fun h => by cases h)
  | none, some (.inr _), h => exact absurd h (fun h => by cases h)
  | some (.inl (_, _, _, _)), none, h => exact absurd h (fun h => by cases h)
  | some (.inr _), none, h => exact absurd h (fun h => by cases h)
  | some (.inl (ph, s, rc, t)), some (.inl (ph', s', rc', t')), h =>
    obtain ⟨rfl, rfl, rfl, rfl⟩ := xsem_inj (SemLoc.dma.inj h); rfl
  | some (.inl (ph, s, rc, t)), some (.inr s'), h =>
    have e := congrArg role (SemLoc.dma.inj h); rw [role_xsem, role_lsem] at e; cases e
  | some (.inr s), some (.inl (ph', s', rc', t')), h =>
    have e := congrArg role (SemLoc.dma.inj h); rw [role_xsem, role_lsem] at e; cases e
  | some (.inr s), some (.inr s'), h =>
    have e := congrArg role (SemLoc.dma.inj h); rw [role_lsem, role_lsem] at e
    rw [show s = s' by injection e]

/-- The units of one transfer: what a block of 256 by 2048 values counts, wherever it lies. Only that it is
    this number is ever used, so it is kept sealed. -/
theorem exists_units : ∃ n : ℕ, n = RefSig.tileCredit S256x2048 .f32 := ⟨_, rfl⟩
def N : ℕ := exists_units.choose
theorem N_eq : RefSig.tileCredit S256x2048 .f32 = N := exists_units.choose_spec.symm
theorem N_pos : 0 < N := by rw [← N_eq]; exact RefSig.tileCredit_pos _ _ (by decide)

/-! ## Ownership -/

/-- Memref `m` of device `c` holds `X`. -/
abbrev has (c : Dev nD) {sp : Space} {sh : Shape} {e : EltTy} (m : Memref sig .tc sp sh e) (X : sh.Idx → Elt F e) : sProp 𝕄 :=
  owns (Ix := Unit) (Name := ℕ) (U := UU) (Lvl := ℕ) (c : Thread nD τ) m fullShare X

/-- Memref `m` of device `c` holds something. -/
def free (c : Dev nD) {sp : Space} {sh : Shape} {e : EltTy} (m : Memref sig .tc sp sh e) : sProp 𝕄 :=
  iprop(∃ X : sh.Idx → Elt F e, has c m X)

instance free_storable (c : Dev nD) {sp : Space} {sh : Shape} {e : EltTy} (m : Memref sig .tc sp sh e) :
    BI.Storable (upEmb : UEmb _ 𝕄) (free (F := F) c m) := by unfold free; infer_instance

/-! ## The schedule -/

variable (I : Inp F)

/-- What device `c` learns and gets from the transfer `ph s rc t`. -/
def xferPay (c : Dev nD) : Bool → Bool → Bool → Fin 7 → sProp 𝕄
  | false, s, false, t => free c (accSlot s (f2 t.val))
  | false, s, true, t => has c (commSlot s t) (I.acc s t.val (prv s c))
  | true, s, false, t => has c (piece s (chk s c (7 + t.val))) (I.fin s t.val c)
  | true, s, true, t => has c (piece s (chk s c (8 + t.val))) (I.fin s (t.val + 1) c)

/-- And from its own copy of side `s`. -/
def locPay (c : Dev nD) (s : Bool) : sProp 𝕄 :=
  iprop(has c (piece s (chk s c 7)) (I.acc s 7 c) ∗ free c (accSlot s 0))

/-- What side `s` will write on device `d`: landing slots, and pieces of the output. -/
def ground (d : Dev nD) (s : Bool) : sProp 𝕄 :=
  iprop((bigSep (Finset.range 7) fun t => free d (commSlot s (f7 t)))
    ∗ bigSep (Finset.range 7) fun t => free d (piece s (chk s d (8 + t))))

/-- What the duty `s` of the barrier of `c` hands over: the ground of `nxt s c`. -/
def barPay (c : Dev nD) (s : Bool) : sProp 𝕄 := ground (nxt s c) s

instance xferPay_storable (c : Dev nD) (ph s rc : Bool) (t : Fin 7) : BI.Storable (upEmb : UEmb _ 𝕄) (xferPay I c ph s rc t) := by
  cases ph <;> cases rc <;> unfold xferPay <;> infer_instance
instance locPay_storable (c : Dev nD) (s : Bool) : BI.Storable (upEmb : UEmb _ 𝕄) (locPay I c s) := by
  unfold locPay; infer_instance
instance barPay_storable (c : Dev nD) (s : Bool) : BI.Storable (upEmb : UEmb _ 𝕄) (barPay (F := F) c s) := by
  unfold barPay ground; infer_instance

/-- What a cell's one round hands over. -/
def pay (c : Dev nD) (d : Bool) : SemLoc sig → sProp 𝕄
  | .reg _ => barPay c d
  | .dma v => match role v with
    | .stage => iprop(emp)
    | .xfer ph s rc t => xferPay I c ph s rc t
    | .loc s => locPay I c s

/-- Who pays a cell. -/
def dutiesOf : SemLoc sig → Finset Bool
  | .reg _ => Finset.univ
  | .dma v => if v.val < 4 then ∅ else {false}

/-- In which coin. -/
def coin : SemLoc sig → ℕ
  | .reg _ => 1
  | .dma _ => N

theorem coin_pos (sm : SemLoc sig) : 0 < coin sm := by
  unfold coin
  split
  · exact Nat.one_pos
  · exact N_pos

def rd : Rounds.Schedule (GSem nD τ sig) Bool 𝕄 where
  duties g r := if r = 0 ∧ g.1.2 = .tc then dutiesOf g.2 else ∅
  unitless _ := False
  amount g _ _ := coin g.2
  payload g _ d := pay I g.1.1 d g.2
  amount_pos g _ _ _ := coin_pos g.2

instance rd_payload_storable (g : GSem nD τ sig) (r : ℕ) (d : Bool) :
    BI.Storable (upEmb : UEmb _ 𝕄) ((rd I).payload g r d) := by
  show BI.Storable upEmb (pay I g.1.1 d g.2)
  unfold pay
  (repeat' split) <;> infer_instance

section Sched
variable (c : Dev nD)

theorem duties_bar : (rd I).duties (barCell c) 0 = Finset.univ := by dsimp only [rd]; rw [if_pos ⟨rfl, rfl⟩]; rfl
theorem duties_dma (v : DmaSem sig) (h : ¬ v.val < 4) : (rd I).duties ((c : Thread nD τ), .dma v) 0 = {false} := by
  dsimp only [rd]; rw [if_pos ⟨rfl, rfl⟩]; exact if_neg h
theorem duties_later (g : GSem nD τ sig) : ∀ r, 1 ≤ r → (rd I).duties g r = ∅ :=
  fun r hr => by dsimp only [rd]; rw [if_neg fun h => by omega]

theorem expect_bar : (rd I).expect (barCell c) 0 = 2 := by
  unfold Schedule.expect Schedule.amountOf
  rw [duties_bar, Finset.sum_congr rfl fun d _ => show (rd I).amount (barCell c) 0 d = 1 from rfl, Finset.sum_const, Finset.card_univ, Fintype.card_bool, smul_eq_mul]
theorem expect_dma (v : DmaSem sig) (h : ¬ v.val < 4) : (rd I).expect ((c : Thread nD τ), .dma v) 0 = N := by
  unfold Schedule.expect Schedule.amountOf; rw [duties_dma I c v h, Finset.sum_singleton]; rfl

theorem payload_xfer (ph s rc : Bool) (t : Fin 7) (d : Bool) : (rd I).payload (xCell ph s rc t c) 0 d = xferPay I c ph s rc t := by
  show pay I c d (.dma (xsem ph s rc t)) = _
  simp only [pay, role_xsem]
theorem payload_loc (s d : Bool) : (rd I).payload (lCell s c) 0 d = locPay I c s := by
  show pay I c d (.dma (lsem s)) = _
  simp only [pay, role_lsem]

theorem rest_bar : bigSep ((rd I).duties (barCell c) 0 \ ∅) (fun d => (rd I).payload (barCell c) 0 d)
    = iprop(barPay (F := F) c false ∗ barPay c true) := by
  rw [Finset.sdiff_empty, duties_bar, bigSep_univ_eq_bigSepL [false, true] (by decide) (by decide), bigSepL_cons_cons, bigSepL_singleton]
  rfl
theorem rest_dma (v : DmaSem sig) (h : ¬ v.val < 4) :
    bigSep ((rd I).duties ((c : Thread nD τ), .dma v) 0 \ ∅) (fun d => (rd I).payload ((c : Thread nD τ), .dma v) 0 d)
      = (rd I).payload ((c : Thread nD τ), .dma v) 0 false := by
  rw [Finset.sdiff_empty, duties_dma I c v h, bigSep_singleton]

end Sched

/-! ## What is owed -/

/-- The side of the `n`-th transfer of a device, in program order; -/
abbrev sideOf (n : ℕ) : Bool := decide (n % 2 = 1)

/-- and the receive cell it pays. -/
def due (c : Dev nD) (n : ℕ) : GSem nD τ sig :=
  xCell (decide (14 ≤ n)) (sideOf n) true (f7 (n / 2)) (nxt (sideOf n) c)

/-- What device `c` owes while its last `k` transfers are still to be made. -/
def owed (c : Dev nD) : ℕ → CellTallies nD τ sig Unit
  | 0 => 0
  | k + 1 => owed c k + tallyAt (due c (27 - k)) () N

/-- What it owes at the second signal, and at the first. -/
def O₁ (c : Dev nD) : CellTallies nD τ sig Unit := owed c 28 + tallyAt (barCell (prv true c)) () 1
def O₀ (c : Dev nD) : CellTallies nD τ sig Unit := O₁ c + tallyAt (barCell (prv false c)) () 1

def L (g : GSem nD τ sig) : Finset Unit := if g.1.2 = .tc then {()} else ∅

/-- The level of a semaphore: staging, send and local cells at 0, the barrier at 1, the receive cells after it in
    program order. -/
def level : SemLoc sig → ℕ
  | .reg _ => 1
  | .dma v => match role v with
    | .xfer ph _ true t => 2 + ((if ph then 7 else 0) + t.val)
    | _ => 0

def lv (g : GSem nD τ sig) (_ : Unit) : ℕ := level g.2

theorem L_of_ne (g : GSem nD τ sig) (h : g.1.2 ≠ .tc) : L g = ∅ := if_neg h
theorem L_tc (c : Dev nD) (sm : SemLoc sig) : L ((c : Thread nD τ), sm) = {()} := if_pos rfl

theorem level_recv (ph s : Bool) (t : Fin 7) : level (.dma (xsem ph s true t)) = 2 + ((if ph then 7 else 0) + t.val) := by
  simp only [level, role_xsem]
theorem level_send (ph s : Bool) (t : Fin 7) : level (.dma (xsem ph s false t)) = 0 := by simp only [level, role_xsem]
theorem level_loc (s : Bool) : level (.dma (lsem s)) = 0 := by simp only [level, role_lsem]
theorem level_stage (v : DmaSem sig) (h : v.val < 4) : level (.dma v) = 0 := by simp only [level, role, if_pos h]

theorem level_due (c : Dev nD) (n : ℕ) (h : n < 28) : level (due c n).2 = 2 + n / 2 := by
  show level (.dma (xsem _ _ true (f7 (n / 2)))) = _
  rw [level_recv]
  simp only [f7, decide_eq_true_eq]
  split <;> omega

/-- What is owed is owed to a receive cell of a later transfer. -/
theorem owed_pos (c : Dev nD) {g : GSem nD τ sig} {u : Unit} : ∀ k, k ≤ 28 → 0 < owed c k g u → ∃ n, 28 - k ≤ n ∧ n < 28 ∧ g = due c n
  | 0, _, h => absurd h (Nat.lt_irrefl 0)
  | k + 1, hk, h => by
    rw [owed, Pi.add_apply, Finsupp.add_apply, tallyAt_apply] at h
    by_cases e : g = due c (27 - k)
    · exact ⟨27 - k, by omega, by omega, e⟩
    · rw [if_neg (fun h' => e h'.1), Nat.add_zero] at h
      obtain ⟨n, h1, h2, h3⟩ := owed_pos c k (by omega) h
      exact ⟨n, by omega, h2, h3⟩

theorem O₀_pos {c : Dev nD} {g : GSem nD τ sig} {u : Unit} (h : 0 < O₀ c g u) :
    (∃ n, n < 28 ∧ g = due c n) ∨ ∃ d, g = barCell d := by
  unfold O₀ O₁ at h
  rw [Pi.add_apply, Finsupp.add_apply, Pi.add_apply, Finsupp.add_apply, tallyAt_apply, tallyAt_apply] at h
  by_cases h1 : g = barCell (prv true c)
  · exact .inr ⟨_, h1⟩
  by_cases h2 : g = barCell (prv false c)
  · exact .inr ⟨_, h2⟩
  rw [if_neg (fun h' => h1 h'.1), if_neg (fun h' => h2 h'.1)] at h
  simp only [Nat.add_zero] at h
  obtain ⟨n, -, h', e⟩ := owed_pos c 28 le_rfl h
  exact .inl ⟨n, h', e⟩

/-- A device may wait on a cell below every transfer it still owes. -/
theorem mayWait_owed (c : Dev nD) (sm : SemLoc sig) (k : ℕ) (hk : k ≤ 28) (hl : level sm < 2 + (28 - k) / 2) :
    (levAts L lv : sProp 𝕄) ⊢ MayWait (c : Thread nD τ) sm () (owed c k) := by
  refine MayOwe.of_cut (L := L) (lev := lv) (level sm) (fun p hp => by rw [Finset.mem_singleton.mp hp, L_tc]; exact Finset.mem_singleton_self _)
    (fun g u hg => ?_) (fun p hp => by rw [Finset.mem_singleton.mp hp]; exact le_rfl) (fun g u hg => ?_)
  · obtain ⟨n, -, -, rfl⟩ := owed_pos c k hk hg
    exact Finset.mem_singleton_self _
  · obtain ⟨n, h1, h2, rfl⟩ := owed_pos c k hk hg
    show level sm < level (due c n).2
    rw [level_due c n h2]
    omega

/-- A staging semaphore may be waited for before and after the body. -/
theorem mayWait_stage (c : Dev nD) (v : DmaSem sig) (hv : v.val < 4) (O : CellTallies nD τ sig Unit) (hO : O = O₀ c ∨ O = 0) :
    (levAts L lv : sProp 𝕄) ⊢ MayWait (c : Thread nD τ) (.dma v) () O := by
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp]; exact (level_stage v hv).le) (fun g u hg => ?_)
    · rcases O₀_pos hg with ⟨n, -, rfl⟩ | ⟨d, rfl⟩ <;> exact Finset.mem_singleton_self _
    · rcases O₀_pos hg with ⟨n, hn, rfl⟩ | ⟨d, rfl⟩
      · show 0 < level (due c n).2
        rw [level_due c n hn]; omega
      · exact Nat.one_pos
  · rw [MayWait_zero]; iintro -; iempintro

end Cert.RingProof

end
-- ==== Proof.Ops.lean ====
/-
# One effect at a time

A transfer to a neighbour, a local copy, a wait, and the handshake, each from what the protocol asks to what
it gives back.
-/
module

public import proofs.«01_k».proof.Proof.Sched

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs `p` to `Q`. -/
abbrev wpb (c : Dev nD) {α : Type} (p : TProg F α) (Q : α → sProp 𝕄) : sProp 𝕄 :=
  wp frame (wpE (defs₀ (F := F)) 𝒱₀ (c : Thread nD τ) none) Set.univ p Q

/-- Device `c` owes `O`. -/
def owesAny (c : Dev nD) (O : CellTallies nD τ sig Unit) : sProp 𝕄 := iprop(∃ W, owes (c : Thread nD τ) O W)

abbrev kcell (ck : Dev nD × Option Own) : GSem nD τ sig := ((ck.1 : Thread nD τ), csem ck.2)

variable (I : Inp F) (K : Dev nD × Option Own → ℕ)

/-- What everyone knows: the invariant of every cell, that every cell has started, and the levels. -/
def env : sProp 𝕄 :=
  iprop((bigSep Finset.univ fun ck : Dev nD × Option Own => cellInv ER (rd I) (K ck) (kcell ck))
    ∗ (bigSep Finset.univ fun ck : Dev nD × Option Own => reached ER (kcell ck) 0) ∗ levAts L lv)

instance env_persistent : BI.Persistent (env I K) := by unfold env; infer_instance

theorem env_inv (c : Dev nD) (k : Option Own) : env I K ⊢ cellInv ER (rd I) (K (c, k)) (kcell (c, k)) := by
  classical
  unfold env; iintro ⟨H, -, -⟩
  have h : (bigSep Finset.univ fun ck : Dev nD × Option Own => cellInv ER (rd I) (K ck) (kcell ck)) ⊢ cellInv ER (rd I) (K (c, k)) (kcell (c, k)) :=
    bigSep_elim (Finset.mem_univ _)
  iapply h; iexact H
theorem env_reached (c : Dev nD) (k : Option Own) : env I K ⊢ reached ER (kcell (c, k)) 0 := by
  classical
  unfold env; iintro ⟨-, H, -⟩
  have h : (bigSep Finset.univ fun ck : Dev nD × Option Own => (reached ER (kcell ck) 0 : sProp 𝕄)) ⊢ reached ER (kcell (c, k)) 0 :=
    bigSep_elim (Finset.mem_univ _)
  iapply h; iexact H
theorem env_lev : env I K ⊢ levAts L lv := by unfold env; iintro ⟨-, -, H⟩; iexact H

/-- Wait on a cell of transfers: its counter is the device's again, with what the cell hands over. -/
theorem wp_take (c : Dev nD) (κ : ℕ) (v : DmaSem sig) (hv : ¬ v.val < 4) (k : ℕ) (hk : k ≤ 28) (hl : level (.dma v) < 2 + (28 - k) / 2)
    {sp sp' : Space} (src : Memref sig .tc sp S256x2048 .f32) (dst : Memref sig .tc sp' S256x2048 .f32) (hcr : dst.view.dmaCredit = N)
    {h1 : src.view.WordExact} {h2 : dst.view.WordExact} {α : Type} {Q : α → sProp 𝕄} {kt : PUnit → TProg F α} :
    iprop(levAts L lv ∗ cellInv ER (rd I) κ ((c : Thread nD τ), .dma v) ∗ cred (tallyAt ((c : Thread nD τ), .dma v) () N)
        ∗ owesAny c (owed c k) ∗ atPos ER ((c : Thread nD τ), .dma v) 0 ∅ 0)
      ⊢ iprop(((semVal ((c : Thread nD τ), .dma v) 0 ∗ owesAny c (owed c k) ∗ (rd I).payload ((c : Thread nD τ), .dma v) 0 false) -∗ wpb c (kt ⟨⟩) Q)
          -∗ wpb c (.op (.waitDma2 v src dst h1 h2) kt) Q) := by
  unfold owesAny
  iintro ⟨#Hlev, #HI, Hcr, ⟨%W, HO⟩, Hat⟩ Hk
  iapply (Rounds.wp_wait_rest_token 𝒱₀ ER (rd I) (c : Thread nD τ) none (κ := κ)
      (k' := N) (fun Kc => (wpE_waitDma2_eq 𝒱₀ (c : Thread nD τ) none Set.univ Kc).trans (by rw [hcr])) (Set.mem_univ _) () (O := owed c k) (W := W) (R := 0) (m := 0) (T := ∅)
      (by rw [Nat.zero_add, expect_dma I c v hv])) $$ [Hcr HO Hat]
  · isplitr; · iexact HI
    isplitl [Hcr]; · iexact Hcr
    isplitl [HO]; · iexact HO
    isplitr; · iapply (mayWait_owed c (.dma v) k hk hl); iexact Hlev
    iexact Hat
  iintro ⟨HO, Hat, -, Hpay⟩
  ihave Hp := (Entails.of_eq (rest_dma I c v hv)) $$ Hpay
  imod (Rounds.cell_close ER (rd I) (Set.mem_univ κ) (fun h => h) (R := 0 + 1) (duties_later I ((c : Thread nD τ), .dma v))) $$ [Hat] with Hz
  · isplitr; · iexact HI
    iexact Hat
  iapply Hk
  isplitl [Hz]; · iexact Hz
  isplitl [HO]; · iexists _; iexact HO
  iexact Hp

theorem routes_tc (a b : Dev nD) : τ.routes (a : Thread nD τ) (b : Thread nD τ) = true := by routes

/-- Send to the neighbour of side `s`: the source goes with the send cell, the landing place with the receive cell. -/
theorem wp_hand (ph s : Bool) (t : Fin 7) (c d : Dev nD) (hd : d = nxt s c) (k : ℕ) (hdue : due c (27 - k) = xCell ph s true t (nxt s c))
    {sp sp' : Space} (src : Memref sig .tc sp S256x2048 .f32) (dst : Memref sig .tc sp' S256x2048 .f32) (hcr : dst.view.dmaCredit = N)
    (Z : FVec F S256x2048 .f32) (hp : has c src Z ⊢ xferPay I c ph s false t) (hp' : has (nxt s c) dst Z ⊢ xferPay I (nxt s c) ph s true t)
    {hsc : dst.view.ref.isScScratch = false} {h1 : src.view.WordExact} {h2 : dst.view.WordExact}
    {h3 : DmaTarget.Typed sp (.dma (xsem ph s true t)) (.remote (Dev.tc d : Thread nD τ) dst (.dma (xsem ph s false t)) hsc)}
    {α : Type} {Q : α → sProp 𝕄} {kt : PUnit → TProg F α} :
    iprop(env I K ∗ has c src Z ∗ free (nxt s c) dst ∗ owesAny c (owed c (k + 1))
        ∗ dutyTok ER (xCell ph s false t c) 0 false ∗ dutyTok ER (xCell ph s true t (nxt s c)) 0 false)
      ⊢ iprop(((cred (tallyAt (xCell ph s false t c) () N) ∗ owesAny c (owed c k)) -∗ wpb c (kt ⟨⟩) Q)
          -∗ wpb c (.op (.enqueueDma src (.remote (Dev.tc d : Thread nD τ) dst (.dma (xsem ph s false t)) hsc) (.dma (xsem ph s true t)) h1 h2 h3) kt) Q) := by
  subst hd
  unfold owesAny free
  iintro ⟨#He, Hs, ⟨%Y, Hd⟩, ⟨%W, HO⟩, Ht, Ht'⟩ Hk
  ihave Hs := (show has c src Z ⊢ iprop(∃ f, ⌜src.view.read (Elt F) f = Z⌝ ∗ (src.view.loc (c : Thread nD τ) ↦[src.view.set]{fullShare} f)) from .rfl) $$ Hs
  icases Hs with ⟨%fs, %hfs, Hs⟩
  ihave Hd := (show has (nxt s c) dst Y ⊢ iprop(∃ f, ⌜dst.view.read (Elt F) f = Y⌝ ∗ (dst.view.loc (nxt s c : Thread nD τ) ↦[dst.view.set]{fullShare} f)) from .rfl) $$ Hd
  icases Hd with ⟨%fd, %hfd, Hd⟩
  have hO : owed c (k + 1) = owed c k + tallyAt (xCell ph s true t (nxt s c)) () N := by rw [← hdue]; rfl
  have hs : (src.view.loc (c : Thread nD τ) ↦[src.view.set]{fullShare} fs : sProp 𝕄) ⊢ (rd I).payload (xCell ph s false t c) 0 false := by
    rw [payload_xfer]
    refine BIBase.Entails.trans ?_ hp
    rw [← hfs]; exact owns_intro _ _ _ _
  have hd : (dst.view.loc (nxt s c : Thread nD τ) ↦[dst.view.set]{fullShare} (dst.view.write (Elt F) fd (src.view.read (Elt F) fs) Finset.univ) : sProp 𝕄)
      ⊢ (rd I).payload (xCell ph s true t (nxt s c)) 0 false := by
    rw [payload_xfer]
    refine BIBase.Entails.trans ?_ hp'
    have e : dst.view.read (Elt F) (dst.view.write (Elt F) fd (src.view.read (Elt F) fs) Finset.univ) = Z := by
      rw [View.read_write_univ, hfs]
    rw [← e]
    exact owns_intro _ _ _ _
  iapply (Rounds.wp_send_pointsTo 𝒱₀ ER (rd I) (c : Thread nD τ) none
    (c' := (nxt s c : Thread nD τ)) (src := src) (dst := dst) (sS := .dma (xsem ph s false t)) (sem := .dma (xsem ph s true t)) (κ₁ := K (c, some (.inl (ph, s, false, t)))) (κ₂ := K (nxt s c, some (.inl (ph, s, true, t))))
    (r₁ := 0) (r₂ := 0) (d₁ := false) (d₂ := false) (fd := fd)
    (by rw [duties_dma I c _ (xsem_ge ph s false t)]; exact Finset.mem_singleton_self _)
    (by rw [duties_dma I (nxt s c) _ (xsem_ge ph s true t)]; exact Finset.mem_singleton_self _)
    () () N (show dst.view.amount (.dma (xsem ph s true t)) = N from hcr) rfl rfl (owed c k) hO (W := W) hs hd (hr := routes_tc c (nxt s c))) $$ [Hs Hd HO Ht Ht']
  · isplitr; · iapply (env_inv I K c (some (.inl (ph, s, false, t)))); iexact He
    isplitr; · iapply (env_inv I K (nxt s c) (some (.inl (ph, s, true, t)))); iexact He
    isplitl [Hs]; · iexact Hs
    isplitl [Hd]; · iexact Hd
    isplitl [HO]; · iexact HO
    isplitl [Ht]; · iexact Ht
    isplitr; · iapply (env_reached I K c (some (.inl (ph, s, false, t)))); iexact He
    isplitl [Ht']; · iexact Ht'
    iapply (env_reached I K (nxt s c) (some (.inl (ph, s, true, t)))); iexact He
  iintro ⟨Hc, HO⟩
  iapply Hk
  isplitl [Hc]; · iexact Hc
  iexists _; iexact HO

/-- Copy within the device: both ends go with the cell of the copy. -/
theorem wp_copy_own (s : Bool) (c : Dev nD) {sp sp' : Space} (src : Memref sig .tc sp S256x2048 .f32) (dst : Memref sig .tc sp' S256x2048 .f32)
    (hcr : dst.view.dmaCredit = N) (Z : FVec F S256x2048 .f32) (hp : iprop(has c dst Z ∗ has c src Z) ⊢ locPay I c s)
    {h1 : src.view.WordExact} {h2 : dst.view.WordExact} {h3 : DmaTarget.Typed (nD := nD) (τ := τ) (p := Proc.tc) sp (.dma (lsem s)) (DmaTarget.here (p := Proc.tc) dst)}
    {α : Type} {Q : α → sProp 𝕄} {kt : PUnit → TProg F α} :
    iprop(env I K ∗ has c src Z ∗ free c dst ∗ dutyTok ER (lCell s c) 0 false)
      ⊢ iprop((cred (tallyAt (lCell s c) () N) -∗ wpb c (kt ⟨⟩) Q)
          -∗ wpb c (.op (.enqueueDma src (.here dst) (.dma (lsem s)) h1 h2 h3) kt) Q) := by
  unfold free
  iintro ⟨#He, Hs, ⟨%Y, Hd⟩, Ht⟩ Hk
  ihave Hs := (show has c src Z ⊢ iprop(∃ f, ⌜src.view.read (Elt F) f = Z⌝ ∗ (src.view.loc (c : Thread nD τ) ↦[src.view.set]{fullShare} f)) from .rfl) $$ Hs
  icases Hs with ⟨%fs, %hfs, Hs⟩
  ihave Hd := (show has c dst Y ⊢ iprop(∃ f, ⌜dst.view.read (Elt F) f = Y⌝ ∗ (dst.view.loc (c : Thread nD τ) ↦[dst.view.set]{fullShare} f)) from .rfl) $$ Hd
  icases Hd with ⟨%fd, %hfd, Hd⟩
  have hs : iprop((dst.view.loc (c : Thread nD τ) ↦[dst.view.set]{fullShare} (dst.view.write (Elt F) fd (src.view.read (Elt F) fs) Finset.univ))
      ∗ (src.view.loc (c : Thread nD τ) ↦[src.view.set]{fullShare} fs)) ⊢ (rd I).payload (lCell s c) 0 false := by
    rw [payload_loc]
    refine BIBase.Entails.trans (BI.sep_mono ?_ ?_) hp
    · have e : dst.view.read (Elt F) (dst.view.write (Elt F) fd (src.view.read (Elt F) fs) Finset.univ) = Z := by
        rw [View.read_write_univ, hfs]
      rw [← e]
      exact owns_intro _ _ _ _
    · rw [← hfs]; exact owns_intro _ _ _ _
  iapply (Rounds.wp_copy_pointsTo 𝒱₀ ER (rd I) (c : Thread nD τ) none (κ := K (c, some (.inr s))) (r := 0) (d := false)
    (by rw [duties_dma I c _ (lsem_ge s)]; exact Finset.mem_singleton_self _)
    () N (show dst.view.amount (.dma (lsem s)) = N from hcr) rfl hs) $$ [Hs Hd Ht]
  · isplitr; · iapply (env_inv I K c (some (.inr s))); iexact He
    isplitl [Hs]; · iexact Hs
    isplitl [Hd]; · iexact Hd
    isplitl [Ht]; · iexact Ht
    iapply (env_reached I K c (some (.inr s))); iexact He
  iintro Hc
  iapply Hk
  iexact Hc

end Cert.RingProof

end
-- ==== Proof.Compute.lean ====
/-
# The device's own work

The handshake, the reading of the scales, and the computing of one block.
-/
module

public import proofs.«01_k».proof.Proof.Ops
public import Idealize.ShloMosaic.Lib.Pipeline.Value

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × Option Own → ℕ)

/-! ## The handshake -/

/-- A device gives its neighbours the ground they will write on, and gets theirs. -/
theorem wp_shake (c d e : Dev nD) (hd : d = nxt true c) (he : e = nxt false c) {α : Type} {Q : α → sProp 𝕄} {kt : PUnit → TProg F α} :
    iprop(env I K ∗ owesAny c (O₀ c) ∗ dutyTok ER (barCell (prv false c)) 0 false ∗ dutyTok ER (barCell (prv true c)) 0 true
        ∗ cred (tallyAt (barCell c) () 2) ∗ atPos ER (barCell c) 0 ∅ 0 ∗ ground c false ∗ ground c true)
      ⊢ iprop(((owesAny c (owed c 28) ∗ semVal (barCell c) 0 ∗ ground (nxt false c) false ∗ ground (nxt true c) true) -∗ wpb c (kt ⟨⟩) Q)
          -∗ wpb c (shake d e >>= kt) Q) := by
  subst hd he
  have hw1 : (1#32 : BitVec 32).toInt.toNat = 1 := by decide
  have hw2 : (2#32 : BitVec 32).toInt.toNat = 2 := by decide
  unfold shake
  simp only [semSignalWord, semWaitWord, Prog.bind_op, Prog.bind_ret]
  unfold owesAny
  iintro ⟨#He, ⟨%W, HO⟩, Ht, Ht', Hc, Hat, Hg, Hg'⟩ Hk
  iapply (Rounds.wp_signal 𝒱₀ ER (rd I) (c : Thread nD τ) none (dst := (prv false c : Thread nD τ)) (κ := K (prv false c, none))
      (d := false) (by rw [duties_bar]; exact Finset.mem_univ _) (show (rd I).amount (barCell (prv false c)) 0 false = 1 from rfl) () (O₁ c) rfl
      (hr := routes_tc c (prv false c))) $$ [HO Ht Hg]
  · isplitr; · iapply (env_inv I K (prv false c) none); iexact He
    isplitl [HO]; · iexact HO
    isplitl [Ht]; · iexact Ht
    isplitl [Hg]
    · rw [show (rd I).payload (barCell (prv false c)) 0 false = ground (F := F) c false from by
        show barPay (prv false c) false = _
        unfold barPay; rw [nxt_prv]]
      iexact Hg
    · iapply (env_reached I K (prv false c) none); iexact He
  iintro HO
  iapply (Rounds.wp_signal 𝒱₀ ER (rd I) (c : Thread nD τ) none (dst := (prv true c : Thread nD τ)) (κ := K (prv true c, none))
      (d := true) (by rw [duties_bar]; exact Finset.mem_univ _) (show (rd I).amount (barCell (prv true c)) 0 true = 1 from rfl) () (owed c 28) rfl
      (hr := routes_tc c (prv true c))) $$ [HO Ht' Hg']
  · isplitr; · iapply (env_inv I K (prv true c) none); iexact He
    isplitl [HO]; · iexact HO
    isplitl [Ht']; · iexact Ht'
    isplitl [Hg']
    · rw [show (rd I).payload (barCell (prv true c)) 0 true = ground (F := F) c true from by
        show barPay (prv true c) true = _
        unfold barPay; rw [nxt_prv]]
      iexact Hg'
    · iapply (env_reached I K (prv true c) none); iexact He
  iintro HO
  iapply (Rounds.wp_wait_rest_token 𝒱₀ ER (rd I) (c : Thread nD τ) none (κ := K (c, none))
      (wpE_semWait_eq 𝒱₀ (c : Thread nD τ) none Set.univ) (Set.mem_univ _) () (O := owed c 28) (W := W) (R := 0) (m := 0) (T := ∅)
      (by rw [expect_bar]; rfl)) $$ [Hc HO Hat]
  · isplitr; · iapply (env_inv I K c none); iexact He
    isplitl [Hc]; · iexact Hc
    isplitl [HO]; · iexact HO
    isplitr; · iapply (mayWait_owed c (.reg barS) 28 le_rfl (by decide)); iapply (env_lev I K); iexact He
    iexact Hat
  iintro ⟨HO, Hat, -, Hpay⟩
  ihave Hp := (Entails.of_eq (rest_bar I c)) $$ Hpay
  unfold barPay
  icases Hp with ⟨Hg, Hg'⟩
  imod (Rounds.cell_close ER (rd I) (κ := K (c, none)) (Set.mem_univ _) (fun h => h) (R := 0 + 1) (duties_later I (barCell c))) $$ [Hat] with Hv
  · isplitr; · iapply (env_inv I K c none); iexact He
    iexact Hat
  iapply Hk
  isplitl [HO]; · iexists _; iexact HO
  isplitl [Hv]; · iexact Hv
  isplitl [Hg]; · iexact Hg
  iexact Hg'

/-! ## Loads and stores -/

/-- The staged inputs of device `c`. -/
def staged (c : Dev nD) : sProp 𝕄 :=
  iprop(has c xM (I.x c) ∗ has c wM (I.w c) ∗ has c sxM (I.sx c) ∗ has c swM (I.sw c))

/-- `has` at the buffer's contents. -/
theorem has_open (c : Dev nD) {sp : Space} {sh : Shape} {e : EltTy} (m : Memref sig .tc sp sh e) (X : sh.Idx → Elt F e) :
    has c m X ⊢ iprop(∃ f, ⌜m.view.read (Elt F) f = X⌝ ∗ (m.view.loc (c : Thread nD τ) ↦[m.view.set]{fullShare} f)) := .rfl
theorem has_intro (c : Dev nD) {sp : Space} {sh : Shape} {e : EltTy} (m : Memref sig .tc sp sh e) (X : sh.Idx → Elt F e)
    (f : m.view.ty.Contents (Elt F)) (h : m.view.read (Elt F) f = X) : (m.view.loc (c : Thread nD τ) ↦[m.view.set]{fullShare} f : sProp 𝕄) ⊢ has c m X := by
  subst h; exact owns_intro _ _ _ _

/-- Load a block of `x`. -/
theorem wp_loadX (c : Dev nD) (r : LoadRect S4096x512) {hl : xM.view.LoadsAt r}
    {α : Type} {Q : α → sProp 𝕄} {kt : _ → TProg F α} :
    has c xM (I.x c) ⊢ iprop((has c xM (I.x c) -∗ wpb c (kt (xM.view.readAt (Elt F) r (I.x c))) Q) -∗ wpb c (.op (.load xM r hl) kt) Q) := by
  iintro H Hk
  ihave H := (has_open c xM _) $$ H
  icases H with ⟨%f, %h, H⟩
  have e : f = I.x c := h
  subst e
  iapply (wp_load 𝒱₀ (c : Thread nD τ) none Set.univ (m := xM) (by rw [Memref.view_whole, View.set_whole]; exact Finset.subset_univ _)) $$ H
  iintro H
  iapply Hk
  iapply (has_intro c xM _ _ rfl); iexact H

/-- Load a block of `w`. -/
theorem wp_loadW (c : Dev nD) (r : LoadRect S512x2048) {hl : wM.view.LoadsAt r}
    {α : Type} {Q : α → sProp 𝕄} {kt : _ → TProg F α} :
    has c wM (I.w c) ⊢ iprop((has c wM (I.w c) -∗ wpb c (kt (wM.view.readAt (Elt F) r (I.w c))) Q) -∗ wpb c (.op (.load wM r hl) kt) Q) := by
  iintro H Hk
  ihave H := (has_open c wM _) $$ H
  icases H with ⟨%f, %h, H⟩
  have e : f = I.w c := h
  subst e
  iapply (wp_load 𝒱₀ (c : Thread nD τ) none Set.univ (m := wM) (by rw [Memref.view_whole, View.set_whole]; exact Finset.subset_univ _)) $$ H
  iintro H
  iapply Hk
  iapply (has_intro c wM _ _ rfl); iexact H

/-- Load from a landing slot. -/
theorem wp_loadSlot (c : Dev nD) (s : Bool) (t : Fin 7) (X : FVec F S256x2048 .f32) {hl : (commM s).view.LoadsAt (commRect t).toLoadRect}
    {α : Type} {Q : α → sProp 𝕄} {kt : ((commRect t).shape.Idx → Elt F .f32) → TProg F α} (P : sProp 𝕄)
    (hk : ∀ v : Vec F S1x256x2048 .f32, ofSlot v = X → iprop(P ∗ has c (commSlot s t) X) ⊢ wpb c (kt v) Q) :
    iprop(P ∗ has c (commSlot s t) X) ⊢ wpb c (.op (.load (commM s) (commRect t).toLoadRect hl) kt) Q := by
  iintro ⟨HP, H⟩
  ihave H := (has_open c (commSlot s t) _) $$ H
  icases H with ⟨%f, %h, H⟩
  have hset : (commSlot s t).view.set = ((commM s).access (commRect t)).set := View.set_reshape _ _
  have hpt : ∀ f, (((commSlot s t).view.loc (c : Thread nD τ) ↦[(commSlot s t).view.set]{fullShare} f) : sProp 𝕄)
      = (((commM s).access (commRect t)).loc (c : Thread nD τ) ↦[((commM s).access (commRect t)).set]{fullShare} (f : Buf (Elt F) (((commM s).access (commRect t)).loc (c : Thread nD τ)))) :=
    fun f => congrArg (fun S => (((commM s).access (commRect t)).loc (c : Thread nD τ) ↦[S]{fullShare} f : sProp 𝕄)) hset
  ihave H := (Entails.of_eq (hpt f)) $$ H
  iapply (wp_load_rect 𝒱₀ (c : Thread nD τ) none Set.univ (m := commM s) (r := commRect t) (q := fullShare) (f := f) subset_rfl) $$ H
  iintro H
  ihave H := (Entails.of_eq (hpt _).symm) $$ H
  iapply (hk (((commM s).access (commRect t)).read (Elt F) f) h)
  isplitl [HP]; · iexact HP
  iapply (has_intro c (commSlot s t) _ f h); iexact H

/-- What an accumulator holds after a store. -/
theorem slot_written (s : Bool) (p : Fin 2) (f : ((accM s).access (accRect p)).ty.Contents (Elt F)) (v : FVec F S256x2048 .f32) :
    (accSlot s p).view.read (Elt F) (((accM s).access (accRect p)).write (Elt F) f (asSlot v) Finset.univ) = v := by
  have e : ((accM s).access (accRect p)).read (Elt F) (((accM s).access (accRect p)).write (Elt F) f (asSlot v) Finset.univ) = asSlot v := View.read_write_univ _ _
  have e' : (accSlot s p).view.read (Elt F) (((accM s).access (accRect p)).write (Elt F) f (asSlot v) Finset.univ)
      = ofSlot (((accM s).access (accRect p)).read (Elt F) (((accM s).access (accRect p)).write (Elt F) f (asSlot v) Finset.univ)) := rfl
  rw [e', e]
  exact shapeCast_shapeCast v shapeCasts_S256x2048_S1x256x2048 shapeCasts_S1x256x2048_S256x2048

/-- Store in an accumulator. -/
theorem wp_stAcc (c : Dev nD) (s : Bool) (p : Fin 2) (v : FVec F S256x2048 .f32)
    {α : Type} {Q : α → sProp 𝕄} {kt : PUnit → TProg F α} :
    free c (accSlot s p) ⊢ iprop((has c (accSlot s p) v -∗ wpb c (kt ⟨⟩) Q) -∗ wpb c (stAcc s p v >>= kt) Q) := by
  unfold stAcc
  simp only [Prog.lift, Prog.bind_op, Prog.bind_ret]
  have hset : (accSlot s p).view.set = ((accM s).access (accRect p)).set := View.set_reshape _ _
  unfold free
  iintro ⟨%X, H⟩ Hk
  ihave H := (has_open c (accSlot s p) _) $$ H
  icases H with ⟨%f, %h, H⟩
  have hpt : ∀ f, (((accSlot s p).view.loc (c : Thread nD τ) ↦[(accSlot s p).view.set]{fullShare} f) : sProp 𝕄)
      = (((accM s).access (accRect p)).loc (c : Thread nD τ) ↦[((accM s).access (accRect p)).set]{fullShare} (f : Buf (Elt F) (((accM s).access (accRect p)).loc (c : Thread nD τ)))) :=
    fun f => congrArg (fun S => (((accM s).access (accRect p)).loc (c : Thread nD τ) ↦[S]{fullShare} f : sProp 𝕄)) hset
  ihave H := (Entails.of_eq (hpt f)) $$ H
  iapply (wp_load_rect 𝒱₀ (c : Thread nD τ) none Set.univ (m := accM s) (r := accRect p) (q := fullShare) (f := f) subset_rfl) $$ H
  iintro H
  iapply (wp_store 𝒱₀ (c : Thread nD τ) none Set.univ (m := accM s) (r := accRect p) (Mk := Finset.univ) (S := ((accM s).access (accRect p)).set) (f := f) subset_rfl) $$ H
  iintro H
  ihave H := (Entails.of_eq (hpt (((accM s).access (accRect p)).write (Elt F) f (asSlot v) Finset.univ)).symm) $$ H
  iapply Hk
  iapply (has_intro c (accSlot s p) v _ (by
    exact slot_written s p f v)); iexact H

/-! ## One block -/

/-- The first block, into an accumulator. -/
theorem wp_first (c : Dev nD) (s : Bool) (p : Fin 2) (o : Fin 2 → ℕ) (h : ∀ a, o a + S256x512.size a ≤ S4096x512.size a) (k : Fin 8) (ho : o = ![rowOf s k, 0])
    {α : Type} {Q : α → sProp 𝕄} {kt : PUnit → TProg F α} :
    iprop(staged I c ∗ free c (accSlot s p)) ⊢ iprop(((staged I c ∗ has c (accSlot s p) (I.part c s k)) -∗ wpb c (kt ⟨⟩) Q) -∗ wpb c (first s p (I.scale c) o h >>= kt) Q) := by
  subst ho
  unfold first ldGemm staged
  simp only [Prog.lift, Prog.bind_op, Prog.bind_ret, Prog.pure_eq_ret]
  iintro ⟨⟨Hx, Hw, Hs⟩, Ha⟩ Hk
  iapply (wp_loadX I c) $$ Hx
  iintro Hx
  iapply (wp_loadW I c) $$ Hw
  iintro Hw
  iapply (wp_stAcc c s p) $$ Ha
  iintro Ha
  iapply Hk
  isplitr [Ha]
  · isplitl [Hx]; · iexact Hx
    isplitl [Hw]; · iexact Hw
    iexact Hs
  iexact Ha

/-- A later block, added to what has landed in slot `t`. -/
theorem wp_later (c : Dev nD) (s : Bool) (p : Fin 2) (t : Fin 7) (o : Fin 2 → ℕ) (h : ∀ a, o a + S256x512.size a ≤ S4096x512.size a) (k : Fin 8) (ho : o = ![rowOf s k, 0])
    (X : FVec F S256x2048 .f32) {α : Type} {Q : α → sProp 𝕄} {kt : PUnit → TProg F α} :
    iprop(staged I c ∗ free c (accSlot s p) ∗ has c (commSlot s t) X)
      ⊢ iprop(((staged I c ∗ has c (accSlot s p) (addf (I.part c s k) X) ∗ has c (commSlot s t) X) -∗ wpb c (kt ⟨⟩) Q) -∗ wpb c (later s p t (I.scale c) o h >>= kt) Q) := by
  subst ho
  unfold later ldGemm staged
  simp only [Prog.lift, Prog.bind_op, Prog.bind_ret, Prog.pure_eq_ret]
  iintro ⟨⟨Hx, Hw, Hs⟩, Ha, Hc⟩ Hk
  iapply (wp_loadX I c) $$ Hx
  iintro Hx
  iapply (wp_loadW I c) $$ Hw
  iintro Hw
  iapply (wp_loadSlot c s t X iprop(staged I c ∗ free c (accSlot s p) ∗ ((staged I c ∗ has c (accSlot s p) (addf (I.part c s k) X) ∗ has c (commSlot s t) X) -∗ wpb c (kt ⟨⟩) Q)) (by
    intro v hv
    rw [hv]
    iintro ⟨⟨Hs, Ha, Hk⟩, Hc⟩
    iapply (wp_stAcc c s p) $$ Ha
    iintro Ha
    iapply Hk
    isplitl [Hs]; · iexact Hs
    isplitl [Ha]; · iexact Ha
    iexact Hc))
  unfold staged
  isplitr [Hc]
  · isplitl [Hx Hw Hs]
    · isplitl [Hx]; · iexact Hx
      isplitl [Hw]; · iexact Hw
      iexact Hs
    isplitl [Ha]; · iexact Ha
    iexact Hk
  iexact Hc

/-- Read the two scales. -/
theorem wp_scale (c : Dev nD) {α : Type} {Q : α → sProp 𝕄} {kt : F .f32 → TProg F α} :
    staged I c ⊢ iprop((staged I c -∗ wpb c (kt (I.scale c)) Q) -∗ wpb c (scaleOf >>= kt) Q) := by
  unfold scaleOf staged smemLoad
  simp only [smemLoadElt, Prog.bind_op, Prog.bind_ret, Prog.pure_eq_ret]
  iintro ⟨Hx, Hw, Hs, Ht⟩ Hk
  ihave Hs := (has_open c sxM _) $$ Hs
  icases Hs with ⟨%f, %h, Hs⟩
  have e : f = I.sx c := h
  subst e
  iapply (wp_load_rect 𝒱₀ (c : Thread nD τ) none Set.univ (m := sxM) (r := Rect.unit (s := S1) ![0] S1.size inb_S1_S1_0) (S := sxM.view.set) ((View.set_whole cc0_stg2_0).symm ▸ Finset.subset_univ _)) $$ Hs
  iintro Hs
  ihave Ht := (has_open c swM _) $$ Ht
  icases Ht with ⟨%f', %h', Ht⟩
  have e' : f' = I.sw c := h'
  subst e'
  iapply (wp_load_rect 𝒱₀ (c : Thread nD τ) none Set.univ (m := swM) (r := Rect.unit (s := S1) ![0] S1.size inb_S1_S1_0) (S := swM.view.set) ((View.set_whole cc0_stg3_0).symm ▸ Finset.subset_univ _)) $$ Ht
  iintro Ht
  iapply Hk
  isplitl [Hx]; · iexact Hx
  isplitl [Hw]; · iexact Hw
  isplitl [Hs]
  · iapply (has_intro c sxM _ _ rfl); iexact Hs
  · iapply (has_intro c swM _ _ rfl); iexact Ht

end Cert.RingProof

end
-- ==== Proof.Transfer.lean ====
/-
# One transfer of the ring

What a device holds before, during and after the transfer of one step, and how a send and the two waits pass
from one to the next.
-/
module

public import proofs.«01_k».proof.Proof.Compute
public import Idealize.SL.BI.BigOpNat

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × Option Own → ℕ)

/-! ## What a device holds of one transfer -/

/-- Before it: the places at both cells, the right to pay both ends, and the credit at its own end. -/
def keys (ph s : Bool) (t : Fin 7) (c : Dev nD) : sProp 𝕄 :=
  iprop(atPos ER (xCell ph s false t c) 0 ∅ 0 ∗ atPos ER (xCell ph s true t c) 0 ∅ 0
    ∗ dutyTok ER (xCell ph s false t c) 0 false ∗ dutyTok ER (xCell ph s true t (nxt s c)) 0 false
    ∗ cred (tallyAt (xCell ph s true t c) () N))

/-- While it runs. -/
def flight (ph s : Bool) (t : Fin 7) (c : Dev nD) : sProp 𝕄 :=
  iprop(cred (tallyAt (xCell ph s false t c) () N) ∗ cred (tallyAt (xCell ph s true t c) () N)
    ∗ atPos ER (xCell ph s false t c) 0 ∅ 0 ∗ atPos ER (xCell ph s true t c) 0 ∅ 0)

/-- After it: both counters at zero. -/
def spent (ph s : Bool) (t : Fin 7) (c : Dev nD) : sProp 𝕄 :=
  iprop(semVal (xCell ph s false t c) 0 ∗ semVal (xCell ph s true t c) 0)

/-- Where step `t` lands on the neighbour. -/
def dest (c : Dev nD) : Bool → Bool → ℕ → sProp 𝕄
  | false, s, t => free (nxt s c) (commSlot s (f7 t))
  | true, s, t => free (nxt s c) (piece s (chk s c (7 + t)))

/-- What is kept after step `t`. -/
def gain (c : Dev nD) : Bool → Bool → ℕ → sProp 𝕄
  | false, s, t => has c (commSlot s (f7 t)) (I.acc s t (prv s c))
  | true, s, t => has c (piece s (chk s c (7 + t))) (I.fin s t c)

/-- The steps still to come, and those done. -/
def todo (ph s : Bool) (n : ℕ) (c : Dev nD) : sProp 𝕄 := bigSep (Finset.Ico n 7) fun t => iprop(keys ph s (f7 t) c ∗ dest c ph s t)
def done (ph s : Bool) (n : ℕ) (c : Dev nD) : sProp 𝕄 := bigSep (Finset.range n) fun t => iprop(spent ph s (f7 t) c ∗ gain I c ph s t)

theorem todo_succ (ph s : Bool) (n : ℕ) (c : Dev nD) (hn : n < 7) :
    (todo ph s n c : sProp 𝕄) = iprop((keys ph s (f7 n) c ∗ dest c ph s n) ∗ todo ph s (n + 1) c) := by
  unfold todo; exact bigSep_Ico_succ_bot hn _
theorem done_succ (ph s : Bool) (n : ℕ) (c : Dev nD) :
    (done I ph s (n + 1) c : sProp 𝕄) = iprop((spent ph s (f7 n) c ∗ gain I c ph s n) ∗ done I ph s n c) := by
  unfold done; exact bigSep_range_succ _ _

/-- The two accumulators of a side. -/
def accs (c : Dev nD) (s : Bool) : sProp 𝕄 := iprop(free c (accSlot s 0) ∗ free c (accSlot s 1))

theorem accs_take (c : Dev nD) (s : Bool) (p : Fin 2) :
    (accs c s : sProp 𝕄) ⊢ iprop(free c (accSlot s p) ∗ (free c (accSlot s p) -∗ accs c s)) := by
  unfold accs
  match p with
  | 0 =>
    iintro ⟨H, H'⟩
    isplitl [H]; · iexact H
    iintro H
    isplitl [H]; · iexact H
    iexact H'
  | 1 =>
    iintro ⟨H, H'⟩
    isplitl [H']; · iexact H'
    iintro H'
    isplitl [H]; · iexact H
    iexact H'

/-! ## The order of the transfers -/

theorem f7_val (n : ℕ) (hn : n < 7) : (f7 n).val = n := Nat.mod_eq_of_lt hn

theorem due_rs (s : Bool) (c : Dev nD) (n : ℕ) (hn : n < 7) :
    due c (2 * n + if s then 1 else 0) = xCell false s true (f7 n) (nxt s c) := by
  unfold due
  have h1 : decide (14 ≤ 2 * n + if s then 1 else 0) = false := by cases s <;> simp <;> omega
  have h2 : sideOf (2 * n + if s then 1 else 0) = s := by cases s <;> simp [sideOf]
  have h3 : (2 * n + if s then 1 else 0) / 2 = n := by cases s <;> simp <;> omega
  rw [h1, h2, h3]

theorem due_ag (s : Bool) (c : Dev nD) (n : ℕ) (hn : n < 7) :
    due c (14 + 2 * n + if s then 1 else 0) = xCell true s true (f7 n) (nxt s c) := by
  unfold due
  have h1 : decide (14 ≤ 14 + 2 * n + if s then 1 else 0) = true := by cases s <;> simp <;> omega
  have h2 : sideOf (14 + 2 * n + if s then 1 else 0) = s := by cases s <;> simp [sideOf] <;> omega
  have h3 : (14 + 2 * n + if s then 1 else 0) / 2 = 7 + n := by cases s <;> simp <;> omega
  have h4 : f7 (7 + n) = f7 n := Fin.ext (by show (7 + n) % 7 = n % 7; omega)
  rw [h1, h2, h3, h4]

theorem credit_is {sp : Space} (m : Memref sig .tc sp S256x2048 .f32) : m.view.dmaCredit = N := N_eq

/-! ## What step `n` hands over -/

theorem pay_rs_send (s : Bool) (n : ℕ) (hn : n < 7) (c : Dev nD) : xferPay I c false s false (f7 n) = free c (accSlot s (f2 n)) := by
  show free c (accSlot s (f2 (f7 n).val)) = _
  rw [f7_val n hn]
theorem pay_rs_recv (s : Bool) (n : ℕ) (hn : n < 7) (c : Dev nD) : xferPay I c false s true (f7 n) = gain I c false s n := by
  show has c (commSlot s (f7 n)) (I.acc s (f7 n).val (prv s c)) = has c (commSlot s (f7 n)) (I.acc s n (prv s c))
  rw [f7_val n hn]
theorem pay_ag_send (s : Bool) (n : ℕ) (hn : n < 7) (c : Dev nD) : xferPay I c true s false (f7 n) = gain I c true s n := by
  show has c (piece s (chk s c (7 + (f7 n).val))) (I.fin s (f7 n).val c) = has c (piece s (chk s c (7 + n))) (I.fin s n c)
  rw [f7_val n hn]
theorem pay_ag_recv (s : Bool) (n : ℕ) (hn : n < 7) (c : Dev nD) :
    xferPay I c true s true (f7 n) = has c (piece s (chk s c (7 + (n + 1)))) (I.fin s (n + 1) c) := by
  show has c (piece s (chk s c (8 + (f7 n).val))) (I.fin s ((f7 n).val + 1) c) = _
  rw [f7_val n hn, show 8 + n = 7 + (n + 1) by omega]

/-! ## One transfer -/

/-- A device waits for both ends of a transfer. -/
theorem wp_both (ph s : Bool) (t : Fin 7) (c : Dev nD) (k : ℕ) (hk : k ≤ 28) (hl : (if ph then 7 else 0) + t.val < (28 - k) / 2)
    {sp sp' sp'' sp''' : Space} (m : Memref sig .tc sp S256x2048 .f32) (m' : Memref sig .tc sp' S256x2048 .f32)
    (m'' : Memref sig .tc sp'' S256x2048 .f32) (m''' : Memref sig .tc sp''' S256x2048 .f32)
    {h1 : m.view.WordExact} {h2 : m'.view.WordExact} {h3 : m''.view.WordExact} {h4 : m'''.view.WordExact}
    {α : Type} {Q : α → sProp 𝕄} {kt : PUnit → TProg F α} :
    iprop(env I K ∗ flight ph s t c ∗ owesAny c (owed c k))
      ⊢ iprop(((spent ph s t c ∗ owesAny c (owed c k) ∗ xferPay I c ph s false t ∗ xferPay I c ph s true t) -∗ wpb c (kt ⟨⟩) Q)
          -∗ wpb c (.op (.waitDma2 (xsem ph s false t) m m' h1 h2) fun _ => .op (.waitDma2 (xsem ph s true t) m'' m''' h3 h4) kt) Q) := by
  unfold flight spent
  iintro ⟨#He, ⟨Hc, Hc', Ha, Ha'⟩, HO⟩ Hk
  iapply (wp_take I c (K (c, some (.inl (ph, s, false, t)))) (xsem ph s false t) (xsem_ge ph s false t) k hk (by rw [level_send]; omega) m m' (credit_is m'))
    $$ [Hc Ha HO]
  · isplitr; · iapply (env_lev I K); iexact He
    isplitr; · iapply (env_inv I K c (some (.inl (ph, s, false, t)))); iexact He
    isplitl [Hc]; · iexact Hc
    isplitl [HO]; · iexact HO
    iexact Ha
  rw [payload_xfer]
  iintro ⟨Hv, HO, Hp⟩
  iapply (wp_take I c (K (c, some (.inl (ph, s, true, t)))) (xsem ph s true t) (xsem_ge ph s true t) k hk (by rw [level_recv]; omega) m'' m''' (credit_is m'''))
    $$ [Hc' Ha' HO]
  · isplitr; · iapply (env_lev I K); iexact He
    isplitr; · iapply (env_inv I K c (some (.inl (ph, s, true, t)))); iexact He
    isplitl [Hc']; · iexact Hc'
    isplitl [HO]; · iexact HO
    iexact Ha'
  rw [payload_xfer]
  iintro ⟨Hv', HO, Hp'⟩
  iapply Hk
  isplitl [Hv Hv']
  · isplitl [Hv]; · iexact Hv
    iexact Hv'
  isplitl [HO]; · iexact HO
  isplitl [Hp]; · iexact Hp
  iexact Hp'

/-- A device sends its partial sum on. -/
theorem wp_rsSend (s : Bool) (n : ℕ) (hn : n < 7) (c d : Dev nD) (hd : d = nxt s c) (k : ℕ) (hk : 27 - k = 2 * n + if s then 1 else 0)
    {α : Type} {Q : α → sProp 𝕄} {kt : PUnit → TProg F α} :
    iprop(env I K ∗ has c (accSlot s (f2 n)) (I.acc s n c) ∗ keys false s (f7 n) c ∗ dest c false s n ∗ owesAny c (owed c (k + 1)))
      ⊢ iprop(((flight false s (f7 n) c ∗ owesAny c (owed c k)) -∗ wpb c (kt ⟨⟩) Q)
          -∗ wpb c (rsSend s (f7 n) (f2 n) d >>= kt) Q) := by
  unfold rsSend keys flight dest
  simp only [Prog.lift, Prog.bind_op, Prog.bind_ret]
  iintro ⟨#He, Hs, ⟨Ha, Ha', Ht, Ht', Hc⟩, Hd, HO⟩ Hk
  iapply (wp_hand I K false s (f7 n) c d hd k (by rw [hk]; exact due_rs s c n hn) (accSlot s (f2 n)) (commSlot s (f7 n)) (credit_is _) (I.acc s n c)
    (by
      rw [pay_rs_send I s n hn]
      unfold free; iintro H; iexists _; iexact H)
    (by
      rw [pay_rs_recv I s n hn]
      show _ ⊢ has (nxt s c) (commSlot s (f7 n)) (I.acc s n (prv s (nxt s c)))
      rw [prv_nxt])) $$ [Hs Hd HO Ht Ht']
  · isplitr; · iexact He
    isplitl [Hs]; · iexact Hs
    isplitl [Hd]; · iexact Hd
    isplitl [HO]; · iexact HO
    isplitl [Ht]; · iexact Ht
    iexact Ht'
  iintro ⟨Hc', HO⟩
  iapply Hk
  isplitr [HO]
  · isplitl [Hc']; · iexact Hc'
    isplitl [Hc]; · iexact Hc
    isplitl [Ha]; · iexact Ha
    iexact Ha'
  · iexact HO

/-- A device waits for its step of the reduce-scatter. -/
theorem wp_rsWait (s : Bool) (n : ℕ) (hn : n < 7) (c : Dev nD) (k : ℕ) (hk : k ≤ 28) (hl : n < (28 - k) / 2)
    {α : Type} {Q : α → sProp 𝕄} {kt : PUnit → TProg F α} :
    iprop(env I K ∗ flight false s (f7 n) c ∗ owesAny c (owed c k))
      ⊢ iprop(((free c (accSlot s (f2 n)) ∗ (spent false s (f7 n) c ∗ gain I c false s n) ∗ owesAny c (owed c k)) -∗ wpb c (kt ⟨⟩) Q)
          -∗ wpb c (rsWait s (f7 n) (f2 n) >>= kt) Q) := by
  unfold rsWait
  simp only [Prog.lift, Prog.bind_op, Prog.bind_ret]
  iintro ⟨#He, Hf, HO⟩ Hk
  iapply (wp_both I K false s (f7 n) c k hk (by rw [f7_val n hn]; simpa using hl) _ _ _ _) $$ [Hf HO]
  · isplitr; · iexact He
    isplitl [Hf]; · iexact Hf
    iexact HO
  rw [pay_rs_send I s n hn, pay_rs_recv I s n hn]
  iintro ⟨Hv, HO, Hp, Hp'⟩
  iapply Hk
  isplitl [Hp]; · iexact Hp
  isplitl [Hv Hp']
  · isplitl [Hv]; · iexact Hv
    iexact Hp'
  iexact HO

/-- A device sends the block it holds on. -/
theorem wp_agSend (s : Bool) (n : ℕ) (hn : n < 7) (c d : Dev nD) (hd : d = nxt s c) (k : ℕ) (hk : 27 - k = 14 + 2 * n + if s then 1 else 0)
    (o : Fin 2 → ℕ) (h : ∀ a, o a + S256x2048.size a ≤ S4096x2048.size a) (ho : o = ![rowOf s (chk s c (7 + n)), 0])
    {α : Type} {Q : α → sProp 𝕄} {kt : PUnit → TProg F α} :
    iprop(env I K ∗ has c (piece s (chk s c (7 + n))) (I.fin s n c) ∗ keys true s (f7 n) c ∗ dest c true s n ∗ owesAny c (owed c (k + 1)))
      ⊢ iprop(((flight true s (f7 n) c ∗ owesAny c (owed c k)) -∗ wpb c (kt ⟨⟩) Q)
          -∗ wpb c (agSend s (f7 n) d o h >>= kt) Q) := by
  subst ho
  unfold agSend keys flight dest
  simp only [Prog.lift, Prog.bind_op, Prog.bind_ret]
  iintro ⟨#He, Hs, ⟨Ha, Ha', Ht, Ht', Hc⟩, Hd, HO⟩ Hk
  iapply (wp_hand I K true s (f7 n) c d hd k (by rw [hk]; exact due_ag s c n hn) (piece s (chk s c (7 + n))) (piece s (chk s c (7 + n))) (credit_is _) (I.fin s n c)
    (by rw [pay_ag_send I s n hn]; exact .rfl)
    (by
      rw [pay_ag_recv I s n hn, show 7 + (n + 1) = (7 + n) + 1 by omega, chk_nxt]
      show _ ⊢ has (nxt s c) (piece s (chk s c (7 + n))) (I.fin s n (prv s (nxt s c)))
      rw [prv_nxt])) $$ [Hs Hd HO Ht Ht']
  · isplitr; · iexact He
    isplitl [Hs]; · iexact Hs
    isplitl [Hd]; · iexact Hd
    isplitl [HO]; · iexact HO
    isplitl [Ht]; · iexact Ht
    iexact Ht'
  iintro ⟨Hc', HO⟩
  iapply Hk
  isplitr [HO]
  · isplitl [Hc']; · iexact Hc'
    isplitl [Hc]; · iexact Hc
    isplitl [Ha]; · iexact Ha
    iexact Ha'
  · iexact HO

/-- A device waits for its step of the all-gather. -/
theorem wp_agWait (s : Bool) (n : ℕ) (hn : n < 7) (c : Dev nD) (k : ℕ) (hk : k ≤ 28) (hl : 7 + n < (28 - k) / 2)
    (o : Fin 2 → ℕ) (h : ∀ a, o a + S256x2048.size a ≤ S4096x2048.size a)
    {α : Type} {Q : α → sProp 𝕄} {kt : PUnit → TProg F α} :
    iprop(env I K ∗ flight true s (f7 n) c ∗ owesAny c (owed c k))
      ⊢ iprop((((spent true s (f7 n) c ∗ gain I c true s n) ∗ has c (piece s (chk s c (7 + (n + 1)))) (I.fin s (n + 1) c) ∗ owesAny c (owed c k)) -∗ wpb c (kt ⟨⟩) Q)
          -∗ wpb c (agWait s (f7 n) o h >>= kt) Q) := by
  unfold agWait
  simp only [Prog.lift, Prog.bind_op, Prog.bind_ret]
  iintro ⟨#He, Hf, HO⟩ Hk
  iapply (wp_both I K true s (f7 n) c k hk (by rw [f7_val n hn]; simpa using hl) _ _ _ _) $$ [Hf HO]
  · isplitr; · iexact He
    isplitl [Hf]; · iexact Hf
    iexact HO
  rw [pay_ag_send I s n hn, pay_ag_recv I s n hn]
  iintro ⟨Hv, HO, Hp, Hp'⟩
  iapply Hk
  isplitl [Hv Hp]
  · isplitl [Hv]; · iexact Hv
    iexact Hp
  isplitl [Hp']; · iexact Hp'
  iexact HO

end Cert.RingProof

end
-- ==== Proof.Steps.lean ====
/-
# The steps of the ring

A step of the reduce-scatter, the device's own block, and a step of the all-gather, each as a passage from one
state of the device to the next.
-/
module

public import proofs.«01_k».proof.Proof.Transfer

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × Option Own → ℕ)

/-- After `n` steps of the reduce-scatter. -/
def RS (n : ℕ) (c : Dev nD) : sProp 𝕄 :=
  iprop(owesAny c (owed c (28 - 2 * n)) ∗ staged I c ∗ (accs c false ∗ accs c true)
    ∗ (todo false false n c ∗ todo false true n c) ∗ (done I false false n c ∗ done I false true n c))

/-- After `n` steps of the all-gather. -/
def AG (n : ℕ) (c : Dev nD) : sProp 𝕄 :=
  iprop(owesAny c (owed c (14 - 2 * n)) ∗ (has c (piece false (chk false c (7 + n))) (I.fin false n c) ∗ has c (piece true (chk true c (7 + n))) (I.fin true n c))
    ∗ (todo true false n c ∗ todo true true n c) ∗ (done I true false n c ∗ done I true true n c))

/-- The device's own contribution to the block of step `n + 1`, added to what landed at step `n`. -/
theorem wp_addStep (c : Dev nD) (s : Bool) (n : ℕ) (p : Fin 2) (t : Fin 7) (ht : t = f7 n) (o : Fin 2 → ℕ) (h : ∀ a, o a + S256x512.size a ≤ S4096x512.size a)
    (ho : o = ![rowOf s (chk s c (n + 1)), 0]) {α : Type} {Q : α → sProp 𝕄} {kt : PUnit → TProg F α} :
    iprop(staged I c ∗ free c (accSlot s p) ∗ gain I c false s n)
      ⊢ iprop(((staged I c ∗ has c (accSlot s p) (I.acc s (n + 1) c) ∗ gain I c false s n) -∗ wpb c (kt ⟨⟩) Q) -∗ wpb c (later s p t (I.scale c) o h >>= kt) Q) := by
  subst ht
  exact wp_later I c s p (f7 n) o h (chk s c (n + 1)) ho (I.acc s n (prv s c))

/-- The first step of the reduce-scatter. -/
theorem wp_rsStep0 (c d e : Dev nD) (hd : d = nxt false c) (he : e = nxt true c)
    (o : Fin 2 → ℕ) (h : ∀ a, o a + S256x512.size a ≤ S4096x512.size a) (ho : o = ![rowOf false (chk false c 0), 0])
    (o' : Fin 2 → ℕ) (h' : ∀ a, o' a + S256x512.size a ≤ S4096x512.size a) (ho' : o' = ![rowOf true (chk true c 0), 0])
    {α : Type} {Q : α → sProp 𝕄} {kt : PUnit → TProg F α} :
    iprop(env I K ∗ RS I 0 c) ⊢ iprop((RS I 1 c -∗ wpb c (kt ⟨⟩) Q) -∗ wpb c (rsStep0 (I.scale c) d e o h o' h' >>= kt) Q) := by
  unfold rsStep0 RS
  simp only [bind_assoc]
  rw [todo_succ false false 0 c (by decide), todo_succ false true 0 c (by decide), done_succ I false false 0 c, done_succ I false true 0 c]
  iintro ⟨#He, HO, Hst, ⟨Ha, Hb⟩, ⟨⟨⟨Hk0, Hd0⟩, Ht0⟩, ⟨⟨Hk1, Hd1⟩, Ht1⟩⟩, Hz0, Hz1⟩ Hk
  ihave Ha := (accs_take c false (f2 0)) $$ Ha
  icases Ha with ⟨Ha, Hac⟩
  ihave Hb := (accs_take c true (f2 0)) $$ Hb
  icases Hb with ⟨Hb, Hbc⟩
  iapply (wp_first I c false (f2 0) o h (chk false c 0) ho) $$ [Hst Ha]
  · isplitl [Hst]; · iexact Hst
    iexact Ha
  iintro ⟨Hst, Ha⟩
  iapply (wp_rsSend I K false 0 (by decide) c d hd 27 rfl) $$ [Ha Hk0 Hd0 HO]
  · isplitr; · iexact He
    isplitl [Ha]; · iexact Ha
    isplitl [Hk0]; · iexact Hk0
    isplitl [Hd0]; · iexact Hd0
    iexact HO
  iintro ⟨Hf0, HO⟩
  iapply (wp_first I c true (f2 0) o' h' (chk true c 0) ho') $$ [Hst Hb]
  · isplitl [Hst]; · iexact Hst
    iexact Hb
  iintro ⟨Hst, Hb⟩
  iapply (wp_rsSend I K true 0 (by decide) c e he 26 rfl) $$ [Hb Hk1 Hd1 HO]
  · isplitr; · iexact He
    isplitl [Hb]; · iexact Hb
    isplitl [Hk1]; · iexact Hk1
    isplitl [Hd1]; · iexact Hd1
    iexact HO
  iintro ⟨Hf1, HO⟩
  iapply (wp_rsWait I K false 0 (by decide) c 26 (by decide) (by decide)) $$ [Hf0 HO]
  · isplitr; · iexact He
    isplitl [Hf0]; · iexact Hf0
    iexact HO
  iintro ⟨Ha, Hg0, HO⟩
  iapply (wp_rsWait I K true 0 (by decide) c 26 (by decide) (by decide)) $$ [Hf1 HO]
  · isplitr; · iexact He
    isplitl [Hf1]; · iexact Hf1
    iexact HO
  iintro ⟨Hb, Hg1, HO⟩
  iapply Hk
  isplitl [HO]; · iexact HO
  isplitl [Hst]; · iexact Hst
  isplitl [Ha Hac Hb Hbc]
  · isplitl [Ha Hac]
    · iapply Hac; iexact Ha
    · iapply Hbc; iexact Hb
  isplitl [Ht0 Ht1]
  · isplitl [Ht0]; · iexact Ht0
    iexact Ht1
  isplitl [Hz0 Hg0]
  · isplitl [Hg0]; · iexact Hg0
    iexact Hz0
  · isplitl [Hg1]; · iexact Hg1
    iexact Hz1

/-- Step `n + 1` of the reduce-scatter. -/
theorem wp_rsStep (n : ℕ) (hn : n + 1 < 7) (c d e : Dev nD) (hd : d = nxt false c) (he : e = nxt true c)
    (o : Fin 2 → ℕ) (h : ∀ a, o a + S256x512.size a ≤ S4096x512.size a) (ho : o = ![rowOf false (chk false c (n + 1)), 0])
    (o' : Fin 2 → ℕ) (h' : ∀ a, o' a + S256x512.size a ≤ S4096x512.size a) (ho' : o' = ![rowOf true (chk true c (n + 1)), 0])
    {α : Type} {Q : α → sProp 𝕄} {kt : PUnit → TProg F α} :
    iprop(env I K ∗ RS I (n + 1) c) ⊢ iprop((RS I (n + 2) c -∗ wpb c (kt ⟨⟩) Q) -∗ wpb c (rsStep n (I.scale c) d e o h o' h' >>= kt) Q) := by
  unfold rsStep RS
  simp only [bind_assoc]
  rw [todo_succ false false (n + 1) c hn, todo_succ false true (n + 1) c hn, show n + 2 = (n + 1) + 1 from rfl, done_succ I false false (n + 1) c, done_succ I false true (n + 1) c,
    done_succ I false false n c, done_succ I false true n c]
  obtain ⟨k, hk⟩ : ∃ k, 28 - 2 * (n + 1) = k + 2 := ⟨26 - 2 * (n + 1), by omega⟩
  rw [hk, show 28 - 2 * ((n + 1) + 1) = k by omega]
  iintro ⟨#He, HO, Hst, ⟨Ha, Hb⟩, ⟨⟨⟨Hk0, Hd0⟩, Ht0⟩, ⟨⟨Hk1, Hd1⟩, Ht1⟩⟩, ⟨⟨Hv0, Hl0⟩, Hz0⟩, ⟨⟨Hv1, Hl1⟩, Hz1⟩⟩ Hk
  ihave Ha := (accs_take c false (f2 (n + 1))) $$ Ha
  icases Ha with ⟨Ha, Hac⟩
  ihave Hb := (accs_take c true (f2 (n + 1))) $$ Hb
  icases Hb with ⟨Hb, Hbc⟩
  iapply (wp_addStep I c false n (f2 (n + 1)) (f7 n) rfl o h ho) $$ [Hst Ha Hl0]
  · isplitl [Hst]; · iexact Hst
    isplitl [Ha]; · iexact Ha
    iexact Hl0
  iintro ⟨Hst, Ha, Hl0⟩
  iapply (wp_rsSend I K false (n + 1) hn c d hd (k + 1) (by simp; omega)) $$ [Ha Hk0 Hd0 HO]
  · isplitr; · iexact He
    isplitl [Ha]; · iexact Ha
    isplitl [Hk0]; · iexact Hk0
    isplitl [Hd0]; · iexact Hd0
    iexact HO
  iintro ⟨Hf0, HO⟩
  iapply (wp_addStep I c true n (f2 (n + 1)) (f7 n) rfl o' h' ho') $$ [Hst Hb Hl1]
  · isplitl [Hst]; · iexact Hst
    isplitl [Hb]; · iexact Hb
    iexact Hl1
  iintro ⟨Hst, Hb, Hl1⟩
  iapply (wp_rsSend I K true (n + 1) hn c e he k (by simp; omega)) $$ [Hb Hk1 Hd1 HO]
  · isplitr; · iexact He
    isplitl [Hb]; · iexact Hb
    isplitl [Hk1]; · iexact Hk1
    isplitl [Hd1]; · iexact Hd1
    iexact HO
  iintro ⟨Hf1, HO⟩
  iapply (wp_rsWait I K false (n + 1) hn c k (by omega) (by omega)) $$ [Hf0 HO]
  · isplitr; · iexact He
    isplitl [Hf0]; · iexact Hf0
    iexact HO
  iintro ⟨Ha, Hg0, HO⟩
  iapply (wp_rsWait I K true (n + 1) hn c k (by omega) (by omega)) $$ [Hf1 HO]
  · isplitr; · iexact He
    isplitl [Hf1]; · iexact Hf1
    iexact HO
  iintro ⟨Hb, Hg1, HO⟩
  iapply Hk
  isplitl [HO]; · iexact HO
  isplitl [Hst]; · iexact Hst
  isplitl [Ha Hac Hb Hbc]
  · isplitl [Ha Hac]
    · iapply Hac; iexact Ha
    · iapply Hbc; iexact Hb
  isplitl [Ht0 Ht1]
  · isplitl [Ht0]; · iexact Ht0
    iexact Ht1
  isplitl [Hz0 Hg0 Hv0 Hl0]
  · isplitl [Hg0]; · iexact Hg0
    isplitl [Hv0 Hl0]
    · isplitl [Hv0]; · iexact Hv0
      iexact Hl0
    · iexact Hz0
  · isplitl [Hg1]; · iexact Hg1
    isplitl [Hv1 Hl1]
    · isplitl [Hv1]; · iexact Hv1
      iexact Hl1
    · iexact Hz1

/-- Step `n` of the all-gather. -/
theorem wp_agStep (n : ℕ) (hn : n < 7) (c d e : Dev nD) (hd : d = nxt false c) (he : e = nxt true c)
    (o : Fin 2 → ℕ) (h : ∀ a, o a + S256x2048.size a ≤ S4096x2048.size a) (ho : o = ![rowOf false (chk false c (7 + n)), 0])
    (o' : Fin 2 → ℕ) (h' : ∀ a, o' a + S256x2048.size a ≤ S4096x2048.size a) (ho' : o' = ![rowOf true (chk true c (7 + n)), 0])
    {α : Type} {Q : α → sProp 𝕄} {kt : PUnit → TProg F α} :
    iprop(env I K ∗ AG I n c) ⊢ iprop((AG I (n + 1) c -∗ wpb c (kt ⟨⟩) Q) -∗ wpb c (agStep n d e o h o' h' >>= kt) Q) := by
  unfold agStep AG
  simp only [bind_assoc]
  rw [todo_succ true false n c hn, todo_succ true true n c hn, done_succ I true false n c, done_succ I true true n c]
  obtain ⟨k, hk⟩ : ∃ k, 14 - 2 * n = k + 2 := ⟨12 - 2 * n, by omega⟩
  rw [hk, show 14 - 2 * (n + 1) = k by omega]
  iintro ⟨#He, HO, ⟨Ha, Hb⟩, ⟨⟨⟨Hk0, Hd0⟩, Ht0⟩, ⟨⟨Hk1, Hd1⟩, Ht1⟩⟩, Hz0, Hz1⟩ Hk
  iapply (wp_agSend I K false n hn c d hd (k + 1) (by simp; omega) o h ho) $$ [Ha Hk0 Hd0 HO]
  · isplitr; · iexact He
    isplitl [Ha]; · iexact Ha
    isplitl [Hk0]; · iexact Hk0
    isplitl [Hd0]; · iexact Hd0
    iexact HO
  iintro ⟨Hf0, HO⟩
  iapply (wp_agSend I K true n hn c e he k (by simp; omega) o' h' ho') $$ [Hb Hk1 Hd1 HO]
  · isplitr; · iexact He
    isplitl [Hb]; · iexact Hb
    isplitl [Hk1]; · iexact Hk1
    isplitl [Hd1]; · iexact Hd1
    iexact HO
  iintro ⟨Hf1, HO⟩
  iapply (wp_agWait I K false n hn c k (by omega) (by omega) o h) $$ [Hf0 HO]
  · isplitr; · iexact He
    isplitl [Hf0]; · iexact Hf0
    iexact HO
  iintro ⟨Hg0, Ha, HO⟩
  iapply (wp_agWait I K true n hn c k (by omega) (by omega) o' h') $$ [Hf1 HO]
  · isplitr; · iexact He
    isplitl [Hf1]; · iexact Hf1
    iexact HO
  iintro ⟨Hg1, Hb, HO⟩
  iapply Hk
  isplitl [HO]; · iexact HO
  isplitl [Ha Hb]
  · isplitl [Ha]; · iexact Ha
    iexact Hb
  isplitl [Ht0 Ht1]
  · isplitl [Ht0]; · iexact Ht0
    iexact Ht1
  isplitl [Hz0 Hg0]
  · isplitl [Hg0]; · iexact Hg0
    iexact Hz0
  · isplitl [Hg1]; · iexact Hg1
    iexact Hz1

/-! ## The device's own block -/

/-- What a device holds for its two local copies. -/
def mine (c : Dev nD) (s : Bool) : sProp 𝕄 :=
  iprop(free c (piece s (chk s c 7)) ∗ dutyTok ER (lCell s c) 0 false ∗ atPos ER (lCell s c) 0 ∅ 0)

/-- A device copies its own block into the output. -/
theorem wp_ownCopy (s : Bool) (c : Dev nD) (o : Fin 2 → ℕ) (h : ∀ a, o a + S256x2048.size a ≤ S4096x2048.size a) (ho : o = ![rowOf s (chk s c 7), 0])
    {α : Type} {Q : α → sProp 𝕄} {kt : PUnit → TProg F α} :
    iprop(env I K ∗ has c (accSlot s 0) (I.acc s 7 c) ∗ free c (piece s (chk s c 7)) ∗ dutyTok ER (lCell s c) 0 false)
      ⊢ iprop((cred (tallyAt (lCell s c) () N) -∗ wpb c (kt ⟨⟩) Q) -∗ wpb c (ownCopy s o h >>= kt) Q) := by
  subst ho
  unfold ownCopy
  simp only [Prog.lift, Prog.bind_op, Prog.bind_ret]
  exact wp_copy_own I K s c (accSlot s 0) (piece s (chk s c 7)) (credit_is _) (I.acc s 7 c) (by
    unfold locPay
    iintro ⟨H, H'⟩
    isplitl [H]; · iexact H
    unfold free; iexists _; iexact H')

/-- And waits for the copy. -/
theorem wp_ownWait (s : Bool) (c : Dev nD) (o : Fin 2 → ℕ) (h : ∀ a, o a + S256x2048.size a ≤ S4096x2048.size a)
    {α : Type} {Q : α → sProp 𝕄} {kt : PUnit → TProg F α} :
    iprop(env I K ∗ cred (tallyAt (lCell s c) () N) ∗ owesAny c (owed c 14) ∗ atPos ER (lCell s c) 0 ∅ 0)
      ⊢ iprop(((semVal (lCell s c) 0 ∗ owesAny c (owed c 14) ∗ has c (piece s (chk s c 7)) (I.acc s 7 c) ∗ free c (accSlot s 0)) -∗ wpb c (kt ⟨⟩) Q)
          -∗ wpb c (ownWait s o h >>= kt) Q) := by
  unfold ownWait
  simp only [Prog.lift, Prog.bind_op, Prog.bind_ret]
  iintro ⟨#He, Hc, HO, Ha⟩ Hk
  iapply (wp_take I c (K (c, some (.inr s))) (lsem s) (lsem_ge s) 14 (by decide) (by rw [level_loc]; decide) _ _ (credit_is _)) $$ [Hc Ha HO]
  · isplitr; · iapply (env_lev I K); iexact He
    isplitr; · iapply (env_inv I K c (some (.inr s))); iexact He
    isplitl [Hc]; · iexact Hc
    isplitl [HO]; · iexact HO
    iexact Ha
  rw [payload_loc]
  iexact Hk

/-- After the two local copies: both counters at zero, the accumulators and the landed sums, and the start of the all-gather. -/
theorem wp_ownStep (c : Dev nD)
    (o : Fin 2 → ℕ) (h : ∀ a, o a + S256x512.size a ≤ S4096x512.size a) (ho : o = ![rowOf false (chk false c 7), 0])
    (q : Fin 2 → ℕ) (g : ∀ a, q a + S256x2048.size a ≤ S4096x2048.size a) (hq : q = ![rowOf false (chk false c 7), 0])
    (o' : Fin 2 → ℕ) (h' : ∀ a, o' a + S256x512.size a ≤ S4096x512.size a) (ho' : o' = ![rowOf true (chk true c 7), 0])
    (q' : Fin 2 → ℕ) (g' : ∀ a, q' a + S256x2048.size a ≤ S4096x2048.size a) (hq' : q' = ![rowOf true (chk true c 7), 0])
    {α : Type} {Q : α → sProp 𝕄} {kt : PUnit → TProg F α} :
    iprop(env I K ∗ RS I 7 c ∗ mine c false ∗ mine c true ∗ (todo true false 0 c ∗ todo true true 0 c))
      ⊢ iprop(((AG I 0 c ∗ staged I c ∗ (accs c false ∗ accs c true) ∗ (done I false false 7 c ∗ done I false true 7 c)
            ∗ semVal (lCell false c) 0 ∗ semVal (lCell true c) 0) -∗ wpb c (kt ⟨⟩) Q)
          -∗ wpb c (ownStep (I.scale c) o h q g o' h' q' g' >>= kt) Q) := by
  unfold ownStep RS AG mine
  simp only [bind_assoc]
  rw [done_succ I false false 6 c, done_succ I false true 6 c]
  iintro ⟨#He, ⟨HO, Hst, ⟨Ha, Hb⟩, -, ⟨⟨Hv0, Hl0⟩, Hz0⟩, ⟨⟨Hv1, Hl1⟩, Hz1⟩⟩, ⟨Hp0, Hd0, Hat0⟩, ⟨Hp1, Hd1, Hat1⟩, Ht⟩ Hk
  ihave Ha := (accs_take c false 0) $$ Ha
  icases Ha with ⟨Ha, Hac⟩
  ihave Hb := (accs_take c true 0) $$ Hb
  icases Hb with ⟨Hb, Hbc⟩
  iapply (wp_addStep I c false 6 0 6 rfl o h ho) $$ [Hst Ha Hl0]
  · isplitl [Hst]; · iexact Hst
    isplitl [Ha]; · iexact Ha
    iexact Hl0
  iintro ⟨Hst, Ha, Hl0⟩
  iapply (wp_ownCopy I K false c q g hq) $$ [Ha Hp0 Hd0]
  · isplitr; · iexact He
    isplitl [Ha]; · iexact Ha
    isplitl [Hp0]; · iexact Hp0
    iexact Hd0
  iintro Hc0
  iapply (wp_addStep I c true 6 0 6 rfl o' h' ho') $$ [Hst Hb Hl1]
  · isplitl [Hst]; · iexact Hst
    isplitl [Hb]; · iexact Hb
    iexact Hl1
  iintro ⟨Hst, Hb, Hl1⟩
  iapply (wp_ownCopy I K true c q' g' hq') $$ [Hb Hp1 Hd1]
  · isplitr; · iexact He
    isplitl [Hb]; · iexact Hb
    isplitl [Hp1]; · iexact Hp1
    iexact Hd1
  iintro Hc1
  iapply (wp_ownWait I K false c q g) $$ [Hc0 HO Hat0]
  · isplitr; · iexact He
    isplitl [Hc0]; · iexact Hc0
    isplitl [HO]; · iexact HO
    iexact Hat0
  iintro ⟨Hs0, HO, Hp0, Ha⟩
  iapply (wp_ownWait I K true c q' g') $$ [Hc1 HO Hat1]
  · isplitr; · iexact He
    isplitl [Hc1]; · iexact Hc1
    isplitl [HO]; · iexact HO
    iexact Hat1
  iintro ⟨Hs1, HO, Hp1, Hb⟩
  iapply Hk
  isplitl [HO Hp0 Hp1 Ht]
  · isplitl [HO]; · iexact HO
    isplitl [Hp0 Hp1]
    · isplitl [Hp0]; · iexact Hp0
      iexact Hp1
    isplitl [Ht]; · iexact Ht
    unfold done
    isplitl
    · rw [Finset.range_zero, bigSep_empty]; iempintro
    · rw [Finset.range_zero, bigSep_empty]; iempintro
  isplitl [Hst]; · iexact Hst
  isplitl [Ha Hac Hb Hbc]
  · isplitl [Ha Hac]
    · iapply Hac; iexact Ha
    · iapply Hbc; iexact Hb
  isplitl [Hz0 Hv0 Hl0 Hz1 Hv1 Hl1]
  · isplitl [Hz0 Hv0 Hl0]
    · isplitl [Hv0 Hl0]
      · isplitl [Hv0]; · iexact Hv0
        iexact Hl0
      · iexact Hz0
    · isplitl [Hv1 Hl1]
      · isplitl [Hv1]; · iexact Hv1
        iexact Hl1
      · iexact Hz1
  isplitl [Hs0]; · iexact Hs0
  iexact Hs1

end Cert.RingProof

end
-- ==== Proof.Body.lean ====
/-
# The body

One device, from what the launch gives it to the end of the all-gather.
-/
module

public import proofs.«01_k».proof.Proof.Steps

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × Option Own → ℕ)

/-- The keys of all seven steps. -/
def keyring (ph s : Bool) (c : Dev nD) : sProp 𝕄 := bigSep (Finset.range 7) fun t => keys ph s (f7 t) c

/-- What a device starts its body from, besides what everyone knows. -/
def start (c : Dev nD) : sProp 𝕄 :=
  iprop(owesAny c (O₀ c) ∗ staged I c
    ∗ (dutyTok ER (barCell (prv false c)) 0 false ∗ dutyTok ER (barCell (prv true c)) 0 true ∗ cred (tallyAt (barCell c) () 2) ∗ atPos ER (barCell c) 0 ∅ 0)
    ∗ (ground c false ∗ ground c true) ∗ (accs c false ∗ accs c true) ∗ (mine c false ∗ mine c true)
    ∗ ((keyring false false c ∗ keyring false true c) ∗ (keyring true false c ∗ keyring true true c)))

/-- What it ends with: its inputs, its buffers, every piece of the output finished, and every counter at zero. -/
def finish (c : Dev nD) : sProp 𝕄 :=
  iprop(owesAny c 0 ∗ staged I c ∗ (accs c false ∗ accs c true)
    ∗ (done I false false 7 c ∗ done I false true 7 c) ∗ (done I true false 7 c ∗ done I true true 7 c)
    ∗ (has c (piece false (chk false c 14)) (I.fin false 7 c) ∗ has c (piece true (chk true c 14)) (I.fin true 7 c))
    ∗ semVal (barCell c) 0 ∗ semVal (lCell false c) 0 ∗ semVal (lCell true c) 0)

/-- The neighbour's ground is where all seven steps of both phases land. -/
theorem ground_split (c : Dev nD) (s : Bool) : (ground (nxt s c) s : sProp 𝕄)
    ⊢ iprop((bigSep (Finset.range 7) fun t => dest c false s t) ∗ bigSep (Finset.range 7) fun t => dest c true s t) := by
  unfold ground
  have e : (bigSep (Finset.range 7) fun t => (free (nxt s c) (piece s (chk s (nxt s c) (8 + t))) : sProp 𝕄))
      = bigSep (Finset.range 7) fun t => dest c true s t := by
    refine bigSep_congr fun t _ => ?_
    show free (nxt s c) (piece s (chk s (nxt s c) (8 + t))) = free (nxt s c) (piece s (chk s c (7 + t)))
    rw [show 8 + t = (7 + t) + 1 by omega, chk_nxt]
  rw [e]
  exact .rfl

theorem todo_intro (ph s : Bool) (c : Dev nD) : iprop(keyring ph s c ∗ bigSep (Finset.range 7) fun t => dest c ph s t) ⊢ (todo ph s 0 c : sProp 𝕄) := by
  unfold keyring todo
  rw [← Finset.range_eq_Ico, bigSep_sep']

theorem wp_walk (c : Dev nD) {α : Type} {Q : α → sProp 𝕄} {kt : PUnit → TProg F α} :
    iprop(env I K ∗ start I c) ⊢ iprop((finish I c -∗ wpb c (kt ⟨⟩) Q) -∗ wpb c (walk c >>= kt) Q) := by
  unfold walk start finish
  simp only [bind_assoc]
  iintro ⟨#He, HO, Hst, ⟨Hb0, Hb1, Hbc, Hba⟩, ⟨Hg0, Hg1⟩, Hac, ⟨Hm0, Hm1⟩, ⟨Hk0, Hk1⟩, ⟨Hk2, Hk3⟩⟩ Hk
  iapply (wp_shake I K c _ _ (dev_of k0_dev1 k0_dev1_lt (by decide +kernel) c) (dev_of k0_dev2 k0_dev2_lt (by decide +kernel) c)) $$ [HO Hb0 Hb1 Hbc Hba Hg0 Hg1]
  · isplitr; · iexact He
    isplitl [HO]; · iexact HO
    isplitl [Hb0]; · iexact Hb0
    isplitl [Hb1]; · iexact Hb1
    isplitl [Hbc]; · iexact Hbc
    isplitl [Hba]; · iexact Hba
    isplitl [Hg0]; · iexact Hg0
    iexact Hg1
  iintro ⟨HO, Hbv, Hg0, Hg1⟩
  ihave Hg0 := (ground_split c false) $$ Hg0
  icases Hg0 with ⟨Hd0, Hd2⟩
  ihave Hg1 := (ground_split c true) $$ Hg1
  icases Hg1 with ⟨Hd1, Hd3⟩
  ihave Ht0 := (todo_intro false false c) $$ [Hk0 Hd0]
  · isplitl [Hk0]; · iexact Hk0
    iexact Hd0
  ihave Ht1 := (todo_intro false true c) $$ [Hk1 Hd1]
  · isplitl [Hk1]; · iexact Hk1
    iexact Hd1
  ihave Ht2 := (todo_intro true false c) $$ [Hk2 Hd2]
  · isplitl [Hk2]; · iexact Hk2
    iexact Hd2
  ihave Ht3 := (todo_intro true true c) $$ [Hk3 Hd3]
  · isplitl [Hk3]; · iexact Hk3
    iexact Hd3
  iapply (wp_scale I c) $$ Hst
  iintro Hst
  iapply (wp_rsStep0 I K c _ _ (dev_of k0_dev3 k0_dev3_lt (by decide +kernel) c) (dev_of k0_dev4 k0_dev4_lt (by decide +kernel) c) _ _ (off1_eq c 0) _ _ (off2_eq c 0)) $$ [HO Hst Hac Ht0 Ht1]
  · isplitr; · iexact He
    unfold RS
    isplitl [HO]; · iexact HO
    isplitl [Hst]; · iexact Hst
    isplitl [Hac]; · iexact Hac
    isplitl [Ht0 Ht1]
    · isplitl [Ht0]; · iexact Ht0
      iexact Ht1
    · unfold done
      isplitl
      · rw [Finset.range_zero, bigSep_empty]; iempintro
      · rw [Finset.range_zero, bigSep_empty]; iempintro
  iintro HR
  iapply (wp_rsStep I K 0 (by decide) c _ _ (dev_of k0_dev5 k0_dev5_lt (by decide +kernel) c) (dev_of k0_dev6 k0_dev6_lt (by decide +kernel) c) _ _ (off1_eq c 1) _ _ (off2_eq c 1)) $$ [HR]
  · isplitr; · iexact He
    iexact HR
  iintro HR
  iapply (wp_rsStep I K 1 (by decide) c _ _ (dev_of k0_dev7 k0_dev7_lt (by decide +kernel) c) (dev_of k0_dev8 k0_dev8_lt (by decide +kernel) c) _ _ (off1_eq c 2) _ _ (off2_eq c 2)) $$ [HR]
  · isplitr; · iexact He
    iexact HR
  iintro HR
  iapply (wp_rsStep I K 2 (by decide) c _ _ (dev_of k0_dev9 k0_dev9_lt (by decide +kernel) c) (dev_of k0_dev10 k0_dev10_lt (by decide +kernel) c) _ _ (off1_eq c 3) _ _ (off2_eq c 3)) $$ [HR]
  · isplitr; · iexact He
    iexact HR
  iintro HR
  iapply (wp_rsStep I K 3 (by decide) c _ _ (dev_of k0_dev11 k0_dev11_lt (by decide +kernel) c) (dev_of k0_dev12 k0_dev12_lt (by decide +kernel) c) _ _ (off1_eq c 4) _ _ (off2_eq c 4)) $$ [HR]
  · isplitr; · iexact He
    iexact HR
  iintro HR
  iapply (wp_rsStep I K 4 (by decide) c _ _ (dev_of k0_dev13 k0_dev13_lt (by decide +kernel) c) (dev_of k0_dev14 k0_dev14_lt (by decide +kernel) c) _ _ (off1_eq c 5) _ _ (off2_eq c 5)) $$ [HR]
  · isplitr; · iexact He
    iexact HR
  iintro HR
  iapply (wp_rsStep I K 5 (by decide) c _ _ (dev_of k0_dev15 k0_dev15_lt (by decide +kernel) c) (dev_of k0_dev16 k0_dev16_lt (by decide +kernel) c) _ _ (off1_eq c 6) _ _ (off2_eq c 6)) $$ [HR]
  · isplitr; · iexact He
    iexact HR
  iintro HR
  iapply (wp_ownStep I K c _ _ (off3_eq c) _ _ (off4_eq c) _ _ (off5_eq c) _ _ (off6_eq c)) $$ [HR Hm0 Hm1 Ht2 Ht3]
  · isplitr; · iexact He
    isplitl [HR]; · iexact HR
    isplitl [Hm0]; · iexact Hm0
    isplitl [Hm1]; · iexact Hm1
    isplitl [Ht2]; · iexact Ht2
    iexact Ht3
  iintro ⟨HA, Hst, Hac, Hz, Hl0, Hl1⟩
  iapply (wp_agStep I K 0 (by decide) c _ _ (dev_of k0_dev17 k0_dev17_lt (by decide +kernel) c) (dev_of k0_dev18 k0_dev18_lt (by decide +kernel) c) _ _ (off7_eq c 0) _ _ (off8_eq c 0)) $$ [HA]
  · isplitr; · iexact He
    iexact HA
  iintro HA
  iapply (wp_agStep I K 1 (by decide) c _ _ (dev_of k0_dev19 k0_dev19_lt (by decide +kernel) c) (dev_of k0_dev20 k0_dev20_lt (by decide +kernel) c) _ _ (off7_eq c 1) _ _ (off8_eq c 1)) $$ [HA]
  · isplitr; · iexact He
    iexact HA
  iintro HA
  iapply (wp_agStep I K 2 (by decide) c _ _ (dev_of k0_dev21 k0_dev21_lt (by decide +kernel) c) (dev_of k0_dev22 k0_dev22_lt (by decide +kernel) c) _ _ (off7_eq c 2) _ _ (off8_eq c 2)) $$ [HA]
  · isplitr; · iexact He
    iexact HA
  iintro HA
  iapply (wp_agStep I K 3 (by decide) c _ _ (dev_of k0_dev23 k0_dev23_lt (by decide +kernel) c) (dev_of k0_dev24 k0_dev24_lt (by decide +kernel) c) _ _ (off7_eq c 3) _ _ (off8_eq c 3)) $$ [HA]
  · isplitr; · iexact He
    iexact HA
  iintro HA
  iapply (wp_agStep I K 4 (by decide) c _ _ (dev_of k0_dev25 k0_dev25_lt (by decide +kernel) c) (dev_of k0_dev26 k0_dev26_lt (by decide +kernel) c) _ _ (off7_eq c 4) _ _ (off8_eq c 4)) $$ [HA]
  · isplitr; · iexact He
    iexact HA
  iintro HA
  iapply (wp_agStep I K 5 (by decide) c _ _ (dev_of k0_dev27 k0_dev27_lt (by decide +kernel) c) (dev_of k0_dev28 k0_dev28_lt (by decide +kernel) c) _ _ (off7_eq c 5) _ _ (off8_eq c 5)) $$ [HA]
  · isplitr; · iexact He
    iexact HA
  iintro HA
  iapply (wp_agStep I K 6 (by decide) c _ _ (dev_of k0_dev29 k0_dev29_lt (by decide +kernel) c) (dev_of k0_dev30 k0_dev30_lt (by decide +kernel) c) _ _ (off7_eq c 6) _ _ (off8_eq c 6)) $$ [HA]
  · isplitr; · iexact He
    iexact HA
  iintro HA
  unfold AG
  icases HA with ⟨HO, Hp, -, Hz'⟩
  iapply Hk
  isplitl [HO]; · iexact HO
  isplitl [Hst]; · iexact Hst
  isplitl [Hac]; · iexact Hac
  isplitl [Hz]; · iexact Hz
  isplitl [Hz']; · iexact Hz'
  isplitl [Hp]; · iexact Hp
  isplitl [Hbv]; · iexact Hbv
  isplitl [Hl0]; · iexact Hl0
  iexact Hl1

end Cert.RingProof

end
-- ==== Proof.Memory.lean ====
/-
# Cutting and joining buffers

The landing buffers in slots, the accumulators in two, and the output in its sixteen pieces: what the
launch owns whole is owned part by part, and back.
-/
module

public import proofs.«01_k».proof.Proof.Body
public import Idealize.ShloMosaic.Lib.MemrefSat

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Something held, as a points-to -/

section
variable (c : Dev nD) {sp : Space} {sh : Shape} {e : EltTy}

theorem free_pts (m : Memref sig .tc sp sh e) :
    (free c m : sProp 𝕄) = iprop(∃ f, m.view.loc (c : Thread nD τ) ↦[m.view.set]{fullShare} f) := by
  have h1 : (free c m : sProp 𝕄) ⊢ iprop(∃ f, m.view.loc (c : Thread nD τ) ↦[m.view.set]{fullShare} f) := by
    unfold free has owns
    iintro ⟨%X, %f, -, H⟩
    iexists f; iexact H
  have h2 : (iprop(∃ f, m.view.loc (c : Thread nD τ) ↦[m.view.set]{fullShare} f) : sProp 𝕄) ⊢ free c m := by
    unfold free has owns
    iintro ⟨%f, H⟩
    iexists (m.view.read (Elt F) f)
    iexists f
    isplitr; · ipureintro; rfl
    iexact H
  exact BI.equiv_iff.mp ⟨h1, h2⟩

theorem free_squeeze (m : Memref sig .tc sp sh e) {sh' : Shape} (h : sh.Squeezes sh') :
    (free c (m.squeeze sh' h) : sProp 𝕄) = free c m := by
  rw [free_pts, free_pts]
  congr 1
  funext f
  show ((m.squeeze sh' h).view.loc (c : Thread nD τ) ↦[(m.squeeze sh' h).view.set]{fullShare} f : sProp 𝕄) = _
  have hs : (m.squeeze sh' h).view.set = m.view.set := View.set_reshape _ _
  exact congrArg (fun S => (m.view.loc (c : Thread nD τ) ↦[S]{fullShare} f : sProp 𝕄)) hs

variable {T : Type} [Fintype T] [DecidableEq T] (m : Memref sig .tc sp sh e) (r : T → Rect sh) (hr : ∀ t a, (r t).stride a = 1)
  (hd : ∀ t t', t ≠ t' → Disjoint (r t).set (r t').set)
  (hcov : (Finset.univ : Finset T).biUnion (fun t => (r t).set) = Finset.univ)
include hd hcov

theorem free_split : (free c m : sProp 𝕄) ⊢ bigSep Finset.univ fun t => free c (m.slice (r t) (hr t)) := by
  unfold free
  iintro ⟨%X, H⟩
  ihave H := (owns_rects (c : Thread nD τ) m fullShare r hr hd hcov X) $$ H
  have h0 (t : T) : (has c (m.slice (r t) (hr t)) fun j => X ((r t).emb j) : sProp 𝕄) ⊢ iprop(∃ X, has c (m.slice (r t) (hr t)) X) := by
    iintro H; iexists _; iexact H
  have h : (bigSep Finset.univ fun t => has (F := F) c (m.slice (r t) (hr t)) fun j => X ((r t).emb j))
      ⊢ bigSep Finset.univ fun t => iprop(∃ X, has (F := F) c (m.slice (r t) (hr t)) X) := bigSep_mono fun t _ => h0 t
  iapply h
  iexact H

theorem free_join : (bigSep Finset.univ fun t => free c (m.slice (r t) (hr t)) : sProp 𝕄) ⊢ free c m := by
  have h1 : (bigSep Finset.univ fun t => free c (m.slice (r t) (hr t)) : sProp 𝕄)
      ⊢ bigSep Finset.univ fun t => ownsSat (c : Thread nD τ) (m.slice (r t) (hr t)) fullShare (fun _ => True) :=
    bigSep_mono fun t _ => (ownsSat_true (c : Thread nD τ) _ _).2
  exact (h1.trans (ownsSat_of_rects (c : Thread nD τ) m fullShare r hr hd hcov (fun _ _ => True))).trans (ownsSat_any (c : Thread nD τ) m fullShare)

/-- Parts that hold known values make a whole that holds them. -/
theorem has_join (Z : (t : T) → (r t).shape.Idx → Elt F e) :
    (bigSep Finset.univ fun t => has c (m.slice (r t) (hr t)) (Z t) : sProp 𝕄) ⊢ has c m (Rect.glue r hcov Z) := by
  have h := owns_of_rects (Val := Elt F) (Ix := Unit) (Name := ℕ) (U := UU) (Lvl := ℕ) (c : Thread nD τ) m fullShare r hr hd hcov (Rect.glue r hcov Z)
  refine BIBase.Entails.trans (Entails.of_eq (bigSep_congr fun t _ => ?_)) h
  rw [show (fun j => Rect.glue r hcov Z ((r t).emb j)) = Z t from funext fun y => Rect.glue_emb r hcov hd Z t y]

end

/-! ## The slots -/

theorem comm_disjoint : ∀ t t' : Fin 7, t ≠ t' → Disjoint (commRect t).set (commRect t').set := fun t t' h =>
  Rect.unit_disjoint 0 (by
    have : t.val ≠ t'.val := fun e => h (Fin.ext e)
    show t.val + 1 ≤ t'.val ∨ t'.val + 1 ≤ t.val
    omega)

theorem comm_cover : (Finset.univ : Finset (Fin 7)).biUnion (fun t => (commRect t).set) = Finset.univ := by
  ext i
  simp only [Finset.mem_biUnion, Finset.mem_univ, true_and, iff_true]
  refine ⟨⟨(i 0).val, (i 0).isLt⟩, Rect.mem_set_unit.mpr fun a => ?_⟩
  have h := (i a).isLt
  match a, h with
  | 0, h => exact ⟨le_rfl, Nat.lt_succ_self _⟩
  | 1, h => exact ⟨Nat.zero_le _, by simpa using h⟩
  | 2, h => exact ⟨Nat.zero_le _, by simpa using h⟩

theorem acc_disjoint : ∀ t t' : Fin 2, t ≠ t' → Disjoint (accRect t).set (accRect t').set := fun t t' h =>
  Rect.unit_disjoint 0 (by
    have : t.val ≠ t'.val := fun e => h (Fin.ext e)
    show t.val + 1 ≤ t'.val ∨ t'.val + 1 ≤ t.val
    omega)

theorem acc_cover : (Finset.univ : Finset (Fin 2)).biUnion (fun t => (accRect t).set) = Finset.univ := by
  ext i
  simp only [Finset.mem_biUnion, Finset.mem_univ, true_and, iff_true]
  refine ⟨⟨(i 0).val, (i 0).isLt⟩, Rect.mem_set_unit.mpr fun a => ?_⟩
  have h := (i a).isLt
  match a, h with
  | 0, h => exact ⟨le_rfl, Nat.lt_succ_self _⟩
  | 1, h => exact ⟨Nat.zero_le _, by simpa using h⟩
  | 2, h => exact ⟨Nat.zero_le _, by simpa using h⟩

theorem univ_f7 (Φ : Fin 7 → sProp 𝕄) : bigSep Finset.univ Φ = bigSep (Finset.range 7) fun n => Φ (f7 n) := by
  rw [← bigSep_image_of_injOn (f := f7) (s := Finset.range 7) (fun a ha b hb h => ?_) Φ]
  · rw [show (Finset.range 7).image f7 = Finset.univ from by decide]
  · have ha := Finset.mem_range.mp ha
    have hb := Finset.mem_range.mp hb
    have := congrArg Fin.val h
    simp only [f7] at this
    omega

/-- A landing buffer is its seven slots. -/
theorem comm_slots (c : Dev nD) (s : Bool) : (free c (commM s) : sProp 𝕄) = bigSep (Finset.range 7) fun t => free c (commSlot s (f7 t)) := by
  rw [← univ_f7 (fun t => free c (commSlot s t)),
    bigSep_congr (Φ := fun t => free c (commSlot s t)) (fun (t : Fin 7) _ => free_squeeze c ((commM s).slice (commRect t) (fun _ => rfl)) squeezes_S1x256x2048_S256x2048)]
  exact BI.equiv_iff.mp ⟨free_split c (commM s) commRect (fun _ _ => rfl) comm_disjoint comm_cover,
    free_join c (commM s) commRect (fun _ _ => rfl) comm_disjoint comm_cover⟩

/-- The accumulators of a side are two. -/
theorem acc_slots (c : Dev nD) (s : Bool) : (free c (accM s) : sProp 𝕄) = accs c s := by
  have h : (bigSep Finset.univ fun p => free c (accSlot s p) : sProp 𝕄) = accs c s :=
    bigSep_univ_eq_bigSepL [0, 1] (by decide) (by decide) _
  rw [← h,
    bigSep_congr (Φ := fun p => free c (accSlot s p)) (fun (t : Fin 2) _ => free_squeeze c ((accM s).slice (accRect t) (fun _ => rfl)) squeezes_S1x256x2048_S256x2048)]
  exact BI.equiv_iff.mp ⟨free_split c (accM s) accRect (fun _ _ => rfl) acc_disjoint acc_cover,
    free_join c (accM s) accRect (fun _ _ => rfl) acc_disjoint acc_cover⟩

/-! ## The pieces of the output -/

/-- A side and a block name a piece. -/
abbrev pieceRect (sk : Bool × Fin 8) := Rect.unit (s := S4096x2048) ![rowOf sk.1 sk.2, 0] S256x2048.size (inbPiece sk.1 sk.2)

theorem piece_disjoint : ∀ a b : Bool × Fin 8, a ≠ b → Disjoint (pieceRect a).set (pieceRect b).set := by
  rintro ⟨s, k⟩ ⟨s', k'⟩ h
  refine Rect.unit_disjoint 0 ?_
  show rowOf s k + 256 ≤ rowOf s' k' ∨ rowOf s' k' + 256 ≤ rowOf s k
  have h' : ¬ (s = s' ∧ k.val = k'.val) := fun ⟨e1, e2⟩ => h (by rw [e1, Fin.ext e2])
  unfold rowOf
  cases s <;> cases s' <;> simp at h' ⊢ <;> omega

/-- The piece a row of the output lies in. -/
theorem piece_cover : (Finset.univ : Finset (Bool × Fin 8)).biUnion (fun t => (pieceRect t).set) = Finset.univ := by
  ext i
  simp only [Finset.mem_biUnion, Finset.mem_univ, true_and, iff_true]
  have h0 : (i 0).val < 4096 := (i 0).isLt
  refine ⟨(decide (256 ≤ (i 0).val % 512), ⟨(i 0).val / 512, by omega⟩), Rect.mem_set_unit.mpr fun a => ?_⟩
  have h := (i a).isLt
  match a, h with
  | 0, h =>
    show 512 * ((i 0).val / 512) + _ ≤ (i 0).val ∧ (i 0).val < 512 * ((i 0).val / 512) + _ + 256
    by_cases hm : 256 ≤ (i 0).val % 512
    · simp only [hm, decide_true, if_true]; omega
    · simp only [hm, decide_false, Bool.false_eq_true, if_false]; omega
  | 1, h => exact ⟨Nat.zero_le _, by simpa using h⟩

theorem univ_chk (s : Bool) (c : Dev nD) (b : ℕ) (Φ : Fin 8 → sProp 𝕄) :
    bigSep Finset.univ Φ = bigSep (Finset.range 8) fun t => Φ (chk s c (b + t)) := by
  have hinj : Set.InjOn (fun t => chk s c (b + t)) (Finset.range 8 : Finset ℕ) := fun x hx y hy h => by
    have hx := Finset.mem_range.mp hx
    have hy := Finset.mem_range.mp hy
    have := congrArg Fin.val h
    simp only [chk] at this
    cases s <;> simp at this <;> omega
  rw [← bigSep_image_of_injOn (f := fun t => chk s c (b + t)) hinj Φ]
  congr 1
  refine (Finset.eq_univ_of_card _ ?_).symm
  rw [Finset.card_image_of_injOn hinj, Finset.card_range, Fintype.card_fin]

/-- The sixteen pieces, side by side. -/
theorem univ_pieces (Φ : Bool × Fin 8 → sProp 𝕄) :
    bigSep Finset.univ Φ = iprop((bigSep Finset.univ fun k => Φ (false, k)) ∗ bigSep Finset.univ fun k => Φ (true, k)) := by
  rw [bigSep_univ_prod]
  exact bigSep_univ_eq_bigSepL [false, true] (by decide) (by decide) _

/-- A side's pieces as the kernel goes through them: the one of the local copy, and the seven that arrive. -/
theorem side_free (c : Dev nD) (s : Bool) : (bigSep Finset.univ fun k => free c (piece s k) : sProp 𝕄)
    = iprop(free c (piece s (chk s c 7)) ∗ bigSep (Finset.range 7) fun t => free c (piece s (chk s c (8 + t)))) := by
  rw [univ_chk s c 8 fun k => free c (piece s k), bigSep_range_succ 7, show 8 + 7 = 7 + 8 from rfl, chk_add_eight]

theorem side_has (c : Dev nD) (s : Bool) (Z : Fin 8 → S256x2048.Idx → Elt F .f32) :
    (bigSep Finset.univ fun k => has c (piece s k) (Z k) : sProp 𝕄)
    = iprop(has c (piece s (chk s c 14)) (Z (chk s c 14)) ∗ bigSep (Finset.range 7) fun t => has c (piece s (chk s c (7 + t))) (Z (chk s c (7 + t)))) := by
  rw [univ_chk s c 7 fun k => has c (piece s k) (Z k), bigSep_range_succ 7]

/-- The output is what the local copies and the arriving blocks write. -/
theorem out_split (c : Dev nD) : (free c outM : sProp 𝕄)
    ⊢ iprop((free c (piece false (chk false c 7)) ∗ bigSep (Finset.range 7) fun t => free c (piece false (chk false c (8 + t))))
      ∗ (free c (piece true (chk true c 7)) ∗ bigSep (Finset.range 7) fun t => free c (piece true (chk true c (8 + t))))) := by
  rw [← side_free, ← side_free, ← univ_pieces (fun sk => free c (piece sk.1 sk.2))]
  exact free_split c outM pieceRect (fun _ _ => rfl) piece_disjoint piece_cover

/-! ## What the output ends with -/

/-- The device whose sum is the last of side `s` of block `k`. -/
def owner (s : Bool) (k : Fin 8) : Dev nD := posn (k.val + if s then 1 else 7)

theorem owner_chk (s : Bool) (c : Dev nD) : owner s (chk s c 7) = c := by revert s c; decide

namespace Inp
variable (I : Inp F)

/-- The finished piece. -/
def total (s : Bool) (k : Fin 8) : FVec F S256x2048 .f32 := I.acc s 7 (owner s k)

theorem fin_eq (s : Bool) : ∀ (t : ℕ) (c : Dev nD), I.fin s t c = I.total s (chk s c (7 + t))
  | 0, c => by unfold total; rw [owner_chk]; rfl
  | t + 1, c => by
    rw [fin, fin_eq s t (prv s c), chk_prv]; rfl

/-- The finished output: the same on every device. -/
def out : S4096x2048.Idx → Elt F .f32 := Rect.glue pieceRect piece_cover fun sk => I.total sk.1 sk.2

theorem out_emb (s : Bool) (k : Fin 8) (j : S256x2048.Idx) : I.out ((pieceRect (s, k)).emb j) = I.total s k j :=
  Rect.glue_emb pieceRect piece_cover piece_disjoint (fun sk => I.total sk.1 sk.2) (s, k) j

end Inp

variable (I : Inp F)

theorem out_join (c : Dev nD) :
    (iprop((has c (piece false (chk false c 14)) (I.fin false 7 c) ∗ bigSep (Finset.range 7) fun t => has c (piece false (chk false c (7 + t))) (I.fin false t c))
      ∗ (has c (piece true (chk true c 14)) (I.fin true 7 c) ∗ bigSep (Finset.range 7) fun t => has c (piece true (chk true c (7 + t))) (I.fin true t c))) : sProp 𝕄)
      ⊢ has c outM I.out := by
  simp only [I.fin_eq]
  rw [← side_has c false (I.total false), ← side_has c true (I.total true), ← univ_pieces (fun sk => has c (piece sk.1 sk.2) (I.total sk.1 sk.2))]
  exact has_join c outM pieceRect (fun _ _ => rfl) piece_disjoint piece_cover fun sk => I.total sk.1 sk.2

end Cert.RingProof

end
-- ==== Proof.Deal.lean ====
/-
# Dealing the cells

At the start every device's cells are opened, and the rights to pay them are dealt around the ring: a device
gets the places at its own cells, and the rights to pay the ends its transfers reach.
-/
module

public import proofs.«01_k».proof.Proof.Memory

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F)

/-! ## The own semaphores, one by one -/

/-- The two phases by the two sides. -/
def four (Ψ : Bool → Bool → sProp 𝕄) : sProp 𝕄 := iprop((Ψ false false ∗ Ψ false true) ∗ (Ψ true false ∗ Ψ true true))

theorem univ_bool (Φ : Bool → sProp 𝕄) : bigSep Finset.univ Φ = iprop(Φ false ∗ Φ true) :=
  bigSep_univ_eq_bigSepL [false, true] (by decide) (by decide) Φ

theorem own_split (Φ : Own → sProp 𝕄) : bigSep Finset.univ Φ
    = iprop(four (fun ph s => bigSep (Finset.range 7) fun t => iprop(Φ (.inl (ph, s, false, f7 t)) ∗ Φ (.inl (ph, s, true, f7 t))))
      ∗ Φ (.inr false) ∗ Φ (.inr true)) := by
  rw [bigSep_univ_sum, univ_bool (fun s => Φ (.inr s))]
  congr 1
  rw [bigSep_univ_prod, univ_bool, bigSep_univ_prod, bigSep_univ_prod, univ_bool, univ_bool]
  simp only [bigSep_univ_prod, univ_bool, univ_f7, four, bigSep_sep']

theorem opt_split (Φ : Option Own → sProp 𝕄) : bigSep Finset.univ Φ = iprop(Φ none ∗ bigSep Finset.univ fun k => Φ (some k)) := by
  have h := bigSep_univ_equiv (M := 𝕄) (Equiv.optionEquivSumPUnit.{0} Own).symm Φ
  rw [bigSep_univ_sum, bigSep_univ_of_subsingleton PUnit.unit] at h
  rw [h]
  exact BI.equiv_iff.mp ⟨BI.sep_comm, BI.sep_comm⟩

/-! ## What is dealt -/

theorem kcell_injective : Function.Injective (kcell : Dev nD × Option Own → GSem nD τ sig) := by
  rintro ⟨c, k⟩ ⟨c', k'⟩ h
  have h1 : c = c' := congrArg (fun g : GSem nD τ sig => g.1.1) h
  subst h1
  have h2 : csem k = csem k' := congrArg Prod.snd h
  have h3 : k = k' := csem_injective h2
  rw [h3]

def ringCells : Finset (GSem nD τ sig) := Finset.univ.map ⟨kcell, kcell_injective⟩

/-- The duties of a device's own cells: two at the barrier, one everywhere else. -/
abbrev tokOf (cj : Dev nD × (Bool ⊕ Own)) : GSem nD τ sig × ℕ × Bool :=
  match cj.2 with
  | .inl d => (kcell (cj.1, none), 0, d)
  | .inr k => (kcell (cj.1, some k), 0, false)

theorem tokOf_injective : Function.Injective tokOf := by
  rintro ⟨c, j⟩ ⟨c', j'⟩ h
  match j, j', h with
  | .inl d, .inl d', h =>
    have e := kcell_injective (congrArg Prod.fst h)
    have e2 : d = d' := congrArg (fun x : GSem nD τ sig × ℕ × Bool => x.2.2) h
    rw [show c = c' from congrArg Prod.fst e, e2]
  | .inl d, .inr k, h => exact absurd (congrArg Prod.snd (kcell_injective (congrArg Prod.fst h))) (by simp)
  | .inr k, .inl d, h => exact absurd (congrArg Prod.snd (kcell_injective (congrArg Prod.fst h))) (by simp)
  | .inr k, .inr k', h =>
    have e := kcell_injective (congrArg Prod.fst h)
    rw [show c = c' from congrArg Prod.fst e, show k = k' from Option.some.inj (congrArg Prod.snd e)]

def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The right to pay duty `d` of a cell. -/
abbrev tok (g : GSem nD τ sig) (d : Bool) : sProp 𝕄 := dutyTok ER g 0 d

/-- The rights of device `c`'s own cells. -/
def toks (c : Dev nD) : sProp 𝕄 :=
  iprop((tok (barCell c) false ∗ tok (barCell c) true) ∗ bigSep Finset.univ fun k : Own => tok (kcell (c, some k)) false)

/-- The rights device `c` uses. -/
def payToks (c : Dev nD) : sProp 𝕄 :=
  iprop((tok (barCell (prv false c)) false ∗ tok (barCell (prv true c)) true)
    ∗ four (fun ph s => bigSep (Finset.range 7) fun t => iprop(tok (xCell ph s false (f7 t) c) false ∗ tok (xCell ph s true (f7 t) (nxt s c)) false))
    ∗ tok (lCell false c) false ∗ tok (lCell true c) false)

theorem toks_around : (bigSep Finset.univ fun c : Dev nD => (toks c : sProp 𝕄)) = bigSep Finset.univ fun c : Dev nD => payToks c := by
  unfold toks payToks
  simp only [own_split, four, bigSep_sep']
  have hb0 := bigSep_univ_equiv (M := 𝕄) (ring false).symm fun c : Dev nD => tok (barCell c) false
  have hb1 := bigSep_univ_equiv (M := 𝕄) (ring true).symm fun c : Dev nD => tok (barCell c) true
  have hx (ph s : Bool) := bigSep_univ_equiv (M := 𝕄) (ring s) fun c : Dev nD =>
    bigSep (Finset.range 7) fun t => tok (kcell (c, some (.inl (ph, s, true, f7 t)))) false
  rw [hb0, hb1, hx false false, hx false true, hx true false, hx true true]
  rfl

/-- What the launch deals device `c`. -/
def G (c : Dev nD) : sProp 𝕄 :=
  iprop((bigSep Finset.univ fun k : Option Own => roundState ER (rd I) (kcell (c, k)) 0)
    ∗ (bigSep Finset.univ fun k : Option Own => iprop(atPos ER (kcell (c, k)) 0 ∅ 0 ∗ reached ER (kcell (c, k)) 0)) ∗ toks c)

theorem fund_ring : BI.own (ER (initOf ringCells ringToks)) ⊢ (|==> bigSep Finset.univ (G I) : sProp 𝕄) := by
  have hX (Φ : GSem nD τ sig → sProp 𝕄) : bigSep ringCells Φ = bigSep Finset.univ fun c : Dev nD => bigSep Finset.univ fun k : Option Own => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, univ_bool]; rfl
  iintro HX
  imod (Rounds.fund ER (rd I) ringCells ringToks) $$ HX with ⟨Hst, Hr, Hat, Htok⟩
  imodintro
  ihave Hst' := (Entails.of_eq (hX fun g => roundState ER (rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- Every cell of a device at zero: its own and the barrier's. -/
abbrev ownZero (c : Dev nD) : sProp 𝕄 :=
  Pipeline.ownSems0 (Ix := Unit) (Name := ℕ) (U := UU) (Lvl := ℕ) (Val := Elt F) (τ := τ) osem c

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) : (iprop(ownZero c ∗ unscopedSems0 c) : sProp 𝕄) ⊢ bigSep Finset.univ fun k : Option Own => semVal (kcell (c, k)) 0 := by
  rw [unscopedSems0_eq, opt_split]
  iintro ⟨H, HB⟩
  isplitl [HB]; · iexact HB
  unfold ownZero Pipeline.ownSems0
  iexact H

theorem core_alloc (c : Dev nD) : iprop(ownZero c ∗ unscopedSems0 c ∗ G I c)
      ⊢ |={Set.univ}=> iprop((bigSep Finset.univ fun k => iprop(∃ κ : ℕ, cellInv ER (rd I) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option Own => semVal (kcell (c, k)) 0) ∗ bigSep Finset.univ fun k : Option Own => roundState ER (rd I) (kcell (c, k)) 0)
      ⊢ (|={Set.univ}=> bigSep Finset.univ fun k => iprop(∃ κ : ℕ, cellInv ER (rd I) κ (kcell (c, k))) : sProp 𝕄) from by
        rw [← bigSep_sep']
        exact (bigSep_mono fun k _ => (Rounds.body_intro ER (rd I) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What everyone knows but the levels. -/
def records (K : Dev nD × Option Own → ℕ) : sProp 𝕄 :=
  iprop((bigSep Finset.univ fun ck : Dev nD × Option Own => cellInv ER (rd I) (K ck) (kcell ck))
    ∗ bigSep Finset.univ fun ck : Dev nD × Option Own => reached ER (kcell ck) 0)

instance records_persistent (K : Dev nD × Option Own → ℕ) : BI.Persistent (records I K) := by unfold records; infer_instance

/-- What is device `c`'s alone: its places, and the rights it uses. -/
def linear (c : Dev nD) : sProp 𝕄 := iprop((bigSep Finset.univ fun k : Option Own => atPos ER (kcell (c, k)) 0 ∅ 0) ∗ payToks c)

def G' (c : Dev nD) : sProp 𝕄 := iprop(∃ K, records I K ∗ linear c)

theorem regroup :
    (bigSep Finset.univ fun c : Dev nD => iprop((bigSep Finset.univ fun k => iprop(∃ κ : ℕ, cellInv ER (rd I) κ (kcell (c, k))))
          ∗ (bigSep Finset.univ fun k => iprop(atPos ER (kcell (c, k)) 0 ∅ 0 ∗ reached ER (kcell (c, k)) 0)) ∗ toks c) : sProp 𝕄)
      ⊢ bigSep Finset.univ (G' I) := by
  classical
  rw [bigSep_sep', bigSep_sep', ← bigSep_univ_prod (fun ck : Dev nD × Option Own => iprop(∃ κ : ℕ, cellInv ER (rd I) κ (kcell ck))),
    bigSep_congr (s := Finset.univ) (fun (c : Dev nD) _ => bigSep_sep' Finset.univ (fun k : Option Own => (atPos ER (kcell (c, k)) 0 ∅ 0 : sProp 𝕄)) (fun k => reached ER (kcell (c, k)) 0)),
    bigSep_sep', ← bigSep_univ_prod (fun ck : Dev nD × Option Own => (reached ER (kcell ck) 0 : sProp 𝕄)), toks_around]
  iintro ⟨HI, ⟨Hat, #HR⟩, Htok⟩
  ihave HK := (BI.bigSep_exists_pi Finset.univ (fun (ck : Dev nD × Option Own) (κ : ℕ) => (cellInv ER (rd I) κ (kcell ck) : sProp 𝕄))) $$ HI
  icases HK with ⟨%K, #HI⟩
  have hG (c : Dev nD) : iprop(records I K ∗ linear c) ⊢ G' I c := by
    unfold G'
    iintro H
    iexists K; iexact H
  iapply (bigSep_with_persistent (R := records I K) fun c _ => hG c)
  isplitr
  · unfold records; isplitl; · iexact HI
    iexact HR
  · unfold linear
    rw [bigSep_sep']
    isplitl [Hat]; · iexact Hat
    iexact Htok

theorem glob : (bigSep Finset.univ fun c => iprop(ownZero c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The credit -/

theorem xCell_eq {ph s rc ph' s' rc' : Bool} {t t' : Fin 7} {c c' : Dev nD} (h : xCell ph s rc t c = xCell ph' s' rc' t' c') :
    ph = ph' ∧ s = s' ∧ rc = rc' ∧ t = t' ∧ c = c' := by
  obtain ⟨a, b, d, e⟩ := xsem_inj (SemLoc.dma.inj (congrArg Prod.snd h))
  exact ⟨a, b, d, e, congrArg (fun g : GSem nD τ sig => g.1.1) h⟩

/-- The place of the transfer `ph s t` in program order. -/
def place (ph s : Bool) (t : Fin 7) : ℕ := (if ph then 14 else 0) + 2 * t.val + if s then 1 else 0

theorem place_lt (ph s : Bool) (t : Fin 7) : place ph s t < 28 := by
  have := t.isLt
  unfold place; cases ph <;> cases s <;> simp <;> omega

theorem due_place (ph s : Bool) (t : Fin 7) (d : Dev nD) : due d (place ph s t) = xCell ph s true t (nxt s d) := by
  have ht : f7 t.val = t := Fin.ext (Nat.mod_eq_of_lt t.isLt)
  unfold place
  cases ph
  · have := due_rs s d t.val t.isLt
    rw [ht] at this
    simpa using this
  · have := due_ag s d t.val t.isLt
    rw [ht] at this
    simpa using this

theorem due_inj {d d' : Dev nD} {n n' : ℕ} (hn : n < 28) (hn' : n' < 28) (h : due d n = due d' n') : n = n' := by
  obtain ⟨h1, h2, -, h4, -⟩ := xCell_eq h
  have h4 := congrArg Fin.val h4
  simp only [f7, sideOf, decide_eq_decide] at h1 h2 h4
  omega

theorem owed_at (d : Dev nD) (n : ℕ) (hn : n < 28) (g : GSem nD τ sig) (hg : ∀ n', n' < 28 → g = due d n' → n' = n) :
    ∀ k, k ≤ 28 → owed d k g () = if 28 - k ≤ n ∧ g = due d n then N else 0
  | 0, _ => by rw [if_neg (by omega)]; rfl
  | k + 1, hk => by
    rw [owed, Pi.add_apply, Finsupp.add_apply, tallyAt_apply, owed_at d n hn g hg k (by omega)]
    have hs : (if g = due d (27 - k) ∧ () = () then N else 0) = if g = due d (27 - k) then N else 0 := by simp only [and_true]
    rw [hs]
    by_cases e : g = due d (27 - k)
    · have := hg _ (by omega) e
      subst this
      rw [if_neg (by omega), if_pos e, if_pos ⟨by omega, e⟩, Nat.zero_add]
    · rw [if_neg e, Nat.add_zero]
      have hn' : g = due d n → n ≠ 27 - k := fun e' h => e (h ▸ e')
      by_cases e' : g = due d n
      · have := hn' e'
        simp only [e', and_true]
        exact if_congr (by omega) rfl rfl
      · simp only [e', and_false]

theorem bar_ne_x {c c' : Dev nD} {ph s rc : Bool} {t : Fin 7} : xCell ph s rc t c ≠ barCell c' := fun h => by
  have := congrArg Prod.snd h; cases this
theorem bar_eq_iff {a b : Dev nD} : Iff (barCell a = barCell b) (a = b) :=
  ⟨fun h => congrArg (fun g : GSem nD τ sig => g.1.1) h, fun h => h ▸ rfl⟩

/-- What device `d` owes a receive cell of device `c`. -/
theorem owed_recv (d c : Dev nD) (ph s : Bool) (t : Fin 7) : O₀ d (xCell ph s true t c) () = if d = prv s c then N else 0 := by
  unfold O₀ O₁
  rw [Pi.add_apply, Finsupp.add_apply, Pi.add_apply, Finsupp.add_apply, tallyAt_apply, tallyAt_apply,
    if_neg (fun h => bar_ne_x h.1), if_neg (fun h => bar_ne_x h.1)]
  show owed d 28 (xCell ph s true t c) () = _
  rw [owed_at d (place ph s t) (place_lt ph s t) _ (fun n' hn' h => by
      have h2 : due (prv s c) (place ph s t) = xCell ph s true t c := by rw [due_place, nxt_prv]
      exact due_inj hn' (place_lt ph s t) (h.symm.trans h2.symm)) 28 le_rfl, due_place]
  by_cases h : d = prv s c
  · subst h; rw [nxt_prv, if_pos ⟨Nat.zero_le _, rfl⟩, if_pos rfl]
  · rw [if_neg h, if_neg]
    rintro ⟨-, h2⟩
    exact h (by rw [(xCell_eq h2).2.2.2.2, prv_nxt])

theorem owed_none (d c : Dev nD) : ∀ k, owed d k (barCell c) () = 0
  | 0 => rfl
  | k + 1 => by
    rw [owed, Pi.add_apply, Finsupp.add_apply, tallyAt_apply, owed_none d c k, if_neg (fun h => bar_ne_x h.1.symm)]

/-- What it owes the barrier of device `c`. -/
theorem owed_bar (d c : Dev nD) : O₀ d (barCell c) () = (if d = nxt true c then 1 else 0) + (if d = nxt false c then 1 else 0) := by
  have h (s : Bool) : Iff (barCell c = barCell (prv s d)) (d = nxt s c) := by
    rw [bar_eq_iff]
    exact ⟨fun e => by rw [e, nxt_prv], fun e => by rw [e, prv_nxt]⟩
  unfold O₀ O₁
  rw [Pi.add_apply, Finsupp.add_apply, Pi.add_apply, Finsupp.add_apply, owed_none, tallyAt_apply, tallyAt_apply, Nat.zero_add]
  simp only [h, and_true]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nxt true c) fun _ => 1, Finset.sum_ite_eq' Finset.univ (nxt false c) fun _ => 1, if_pos (Finset.mem_univ _), if_pos (Finset.mem_univ _)]

theorem launch_recv (c : Dev nD) (ph s : Bool) (t : Fin 7) :
    tallyOn (xCell ph s true t c) (launchCredit (Pipeline.owing O₀) 0 (xCell ph s true t c)) = (tallyAt (xCell ph s true t c) () N : CellTallies nD τ sig Unit) := by
  unfold tallyAt; refine congrArg _ (Finsupp.ext fun u => ?_); cases u
  rw [Pipeline.launchCredit_owing, Finsupp.single_eq_same, Finset.sum_congr rfl fun d _ => owed_recv d c ph s t, Finset.sum_ite_eq' Finset.univ (prv s c) fun _ => N,
    if_pos (Finset.mem_univ _)]

/-- The credit of a device: its barrier's two units, and each of its receive cells' one transfer. -/
def creds (c : Dev nD) : sProp 𝕄 :=
  iprop(cred (tallyAt (barCell c) () 2) ∗ four fun ph s => bigSep (Finset.range 7) fun t => cred (tallyAt (xCell ph s true (f7 t) c) () N))

theorem creds_intro (c : Dev nD) : (Pipeline.launchCred O₀ c : sProp 𝕄) ⊢ creds c := by
  classical
  unfold Pipeline.launchCred
  have h1 : (bigSep Finset.univ fun sm : SemLoc sig => (cred (tallyOn ((c.tc : Thread nD τ), sm) (launchCredit (Pipeline.owing O₀) 0 ((c.tc : Thread nD τ), sm))) : sProp 𝕄))
      ⊢ bigSep (Finset.univ.image csem) fun sm : SemLoc sig => cred (tallyOn ((c.tc : Thread nD τ), sm) (launchCredit (Pipeline.owing O₀) 0 ((c.tc : Thread nD τ), sm))) :=
    bigSep_subset (Finset.subset_univ _)
  refine BIBase.Entails.trans h1 ?_
  rw [bigSep_image_of_injOn csem_injective.injOn, opt_split, own_split]
  unfold creds
  simp only [four, bigSep_sep']
  simp only [← launch_bar, ← launch_recv]
  iintro ⟨Hb, ⟨⟨⟨-, H0⟩, -, H1⟩, ⟨-, H2⟩, -, H3⟩, -⟩
  isplitl [Hb]; · iexact Hb
  isplitl [H0 H1]
  · isplitl [H0]; · iexact H0
    iexact H1
  · isplitl [H2]; · iexact H2
    iexact H3

end Cert.RingProof

end
-- ==== Proof.ProgEq.lean ====
/-
# The printed body is the walk
-/
module

public import proofs.«01_k».proof.Proof.Prog

@[expose] public section

noncomputable section

namespace Cert.RingProof

open Cert.KernelIdeal Cert.KernelIdeal.Gen
open Idealize.ShloMosaic
open Idealize.ShloMosaic.TcCoe
open Idealize.SL Idealize.SL.Sem

variable {F : FTy → Type} [FloatOps F]

/-- The kernel's body over the call's own buffers. -/
def bodyProg : TProg F PUnit :=
  cc0_body xM (Memref.isWhole_whole _) wM (Memref.isWhole_whole _) sxM (Memref.isWhole_whole _) swM (Memref.isWhole_whole _)
    outM (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 cc0_scratch8 cc0_scratch9 cc0_scratch10 cc0_scratch11 cc0_scratch12

set_option maxRecDepth 65536 in
set_option maxHeartbeats 4000000 in
theorem bodyProg_eq : bodyProg (F := F) = (Prog.lift .deviceId >>= fun c => walk c) := rfl

end Cert.RingProof

end
-- ==== Proof.Enter.lean ====
/-
# Entering and leaving the call

What a device holds when the call starts and when it ends, against what its body starts from and ends with.
-/
module

public import proofs.«01_k».proof.Proof.Deal
public import proofs.«01_k».proof.Proof.ProgEq
public import proofs.«01_k».proof.Proof.Gen.KernelIdeal.Frame
public import Idealize.ShloMosaic.Lib.Pipeline.CollectiveSegs
public import Idealize.ShloMosaic.Lib.Quiescent

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the devices start from, in the memory at launch. -/
def inp : Inp F where
  x c := iblk m c 0 t0_0
  w c := iblk m c 1 t0_0
  sx c := iblk m c 2 t0_0
  sw c := iblk m c 3 t0_0

/-! ## Before and after the body -/

theorem free_whole (c : Dev nD) (b : Ref sig .tc) :
    (free c (Memref.whole b) : sProp 𝕄) = iprop(∃ f : Buf (Elt F) ((c : Thread nD τ).loc b), ((c : Thread nD τ).loc b) ↦{fullShare} f) := by
  unfold free has
  simp only [owns_whole]

/-- The buffers the call works in. -/
def work (c : Dev nD) : sProp 𝕄 :=
  iprop(free c (commM false) ∗ free c (commM true) ∗ free c (accM false) ∗ free c (accM true))

theorem work_eq (c : Dev nD) : (Pipeline.scopedRest (Ix := Unit) (Name := ℕ) (U := UU) (Lvl := ℕ) (Val := Elt F) spec0 c : sProp 𝕄) = work c := by
  rw [scopedRest0_eq]
  unfold work
  rw [show (free c (commM false) : sProp 𝕄) = _ from free_whole c cc0_scratch0, show (free c (commM true) : sProp 𝕄) = _ from free_whole c cc0_scratch1,
    show (free c (accM false) : sProp 𝕄) = _ from free_whole c cc0_scratch2, show (free c (accM true) : sProp 𝕄) = _ from free_whole c cc0_scratch3]

/-- What a device enters the call with. -/
def enter (c : Dev nD) : sProp 𝕄 := iprop((∃ K, env (inp m) K ∗ linear c) ∗ creds c ∗ free c outM)

def Φ₀ (c : Dev nD) : sProp 𝕄 := iprop(enter m c ∗ work c)
def Φ₁ (c : Dev nD) : sProp 𝕄 := iprop(has c outM (inp m).out ∗ work c ∗ ownZero c ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => (inp m).x c
    | ⟨1, _⟩ => (inp m).w c
    | ⟨2, _⟩ => (inp m).sx c
    | ⟨3, _⟩ => (inp m).sw c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem keyring_intro (ph s : Bool) (c : Dev nD) :
    iprop((bigSep (Finset.range 7) fun t => iprop(atPos ER (xCell ph s false (f7 t) c) 0 ∅ 0 ∗ atPos ER (xCell ph s true (f7 t) c) 0 ∅ 0))
      ∗ (bigSep (Finset.range 7) fun t => iprop(tok (xCell ph s false (f7 t) c) false ∗ tok (xCell ph s true (f7 t) (nxt s c)) false))
      ∗ bigSep (Finset.range 7) fun t => cred (tallyAt (xCell ph s true (f7 t) c) () N)) ⊢ (keyring ph s c : sProp 𝕄) := by
  unfold keyring keys
  simp only [bigSep_sep']
  iintro ⟨⟨H1, H2⟩, ⟨H3, H4⟩, H5⟩
  isplitl [H1]; · iexact H1
  isplitl [H2]; · iexact H2
  isplitl [H3]; · iexact H3
  isplitl [H4]; · iexact H4
  iexact H5

/-- What a device enters with is what its body starts from. -/
theorem start_intro (K : Dev nD × Option Own → ℕ) (c : Dev nD) :
    iprop(owesAny c (O₀ c) ∗ staged (inp m) c ∗ linear c ∗ creds c ∗ free c outM ∗ work c) ⊢ (start (inp m) c : sProp 𝕄) := by
  have hK : (bigSep Finset.univ fun k : Option Own => (atPos ER (kcell (c, k)) 0 ∅ 0 : sProp 𝕄))
      = iprop(atPos ER (barCell c) 0 ∅ 0
        ∗ four (fun ph s => bigSep (Finset.range 7) fun t => iprop(atPos ER (xCell ph s false (f7 t) c) 0 ∅ 0 ∗ atPos ER (xCell ph s true (f7 t) c) 0 ∅ 0))
        ∗ atPos ER (lCell false c) 0 ∅ 0 ∗ atPos ER (lCell true c) 0 ∅ 0) := by
    rw [opt_split, own_split]
    rfl
  unfold linear creds payToks work start
  rw [hK, comm_slots, comm_slots, acc_slots, acc_slots]
  unfold four mine ground
  iintro ⟨HO, Hst, ⟨⟨Hba, ⟨⟨Ha0, Ha1⟩, Ha2, Ha3⟩, Hl0, Hl1⟩, ⟨Hb0, Hb1⟩, ⟨⟨Ht0, Ht1⟩, Ht2, Ht3⟩, Hm0, Hm1⟩, ⟨Hbc, ⟨Hc0, Hc1⟩, Hc2, Hc3⟩, Hout, Hw0, Hw1, Hac0, Hac1⟩
  ihave Hout := (out_split c) $$ Hout
  icases Hout with ⟨⟨Hp0, Hg0⟩, Hp1, Hg1⟩
  isplitl [HO]; · iexact HO
  isplitl [Hst]; · iexact Hst
  isplitl [Hb0 Hb1 Hbc Hba]
  · isplitl [Hb0]; · iexact Hb0
    isplitl [Hb1]; · iexact Hb1
    isplitl [Hbc]; · iexact Hbc
    iexact Hba
  isplitl [Hw0 Hg0 Hw1 Hg1]
  · isplitl [Hw0 Hg0]
    · isplitl [Hw0]; · iexact Hw0
      iexact Hg0
    · isplitl [Hw1]; · iexact Hw1
      iexact Hg1
  isplitl [Hac0 Hac1]
  · isplitl [Hac0]; · iexact Hac0
    iexact Hac1
  isplitl [Hp0 Hm0 Hl0 Hp1 Hm1 Hl1]
  · isplitl [Hp0 Hm0 Hl0]
    · isplitl [Hp0]; · iexact Hp0
      isplitl [Hm0]; · iexact Hm0
      iexact Hl0
    · isplitl [Hp1]; · iexact Hp1
      isplitl [Hm1]; · iexact Hm1
      iexact Hl1
  isplitl [Ha0 Ht0 Hc0 Ha1 Ht1 Hc1]
  · isplitl [Ha0 Ht0 Hc0]
    · iapply (keyring_intro false false c)
      isplitl [Ha0]; · iexact Ha0
      isplitl [Ht0]; · iexact Ht0
      iexact Hc0
    · iapply (keyring_intro false true c)
      isplitl [Ha1]; · iexact Ha1
      isplitl [Ht1]; · iexact Ht1
      iexact Hc1
  · isplitl [Ha2 Ht2 Hc2]
    · iapply (keyring_intro true false c)
      isplitl [Ha2]; · iexact Ha2
      isplitl [Ht2]; · iexact Ht2
      iexact Hc2
    · iapply (keyring_intro true true c)
      isplitl [Ha3]; · iexact Ha3
      isplitl [Ht3]; · iexact Ht3
      iexact Hc3

/-- The counters of a phase's transfers on one side, and what they brought. -/
theorem done_split (I : Inp F) (ph s : Bool) (c : Dev nD) : (done I ph s 7 c : sProp 𝕄)
    = iprop((bigSep (Finset.range 7) fun t => iprop(semVal (xCell ph s false (f7 t) c) 0 ∗ semVal (xCell ph s true (f7 t) c) 0))
      ∗ bigSep (Finset.range 7) fun t => gain I c ph s t) := by
  unfold done spent; rw [bigSep_sep']

theorem landed_free (I : Inp F) (s : Bool) (c : Dev nD) : (bigSep (Finset.range 7) fun t => gain I c false s t : sProp 𝕄) ⊢ free c (commM s) := by
  rw [comm_slots]
  have h (t : ℕ) : gain I c false s t ⊢ free c (commSlot s (f7 t)) := by
    show has c (commSlot s (f7 t)) (I.acc s t (prv s c)) ⊢ _
    unfold free
    iintro H
    iexists _; iexact H
  exact bigSep_mono fun t _ => h t

/-- What the body ends with is what the device leaves the call with. -/
theorem finish_elim (c : Dev nD) :
    (finish (inp m) c : sProp 𝕄) ⊢ iprop(Φ₁ m c ∗ owesAny c 0 ∗ staged (inp m) c) := by
  have hZ : (ownZero c : sProp 𝕄)
      = iprop(four (fun ph s => bigSep (Finset.range 7) fun t => iprop(semVal (xCell ph s false (f7 t) c) 0 ∗ semVal (xCell ph s true (f7 t) c) 0))
        ∗ semVal (lCell false c) 0 ∗ semVal (lCell true c) 0) := by
    unfold ownZero Pipeline.ownSems0
    rw [own_split]
    rfl
  unfold finish Φ₁ work
  rw [hZ]
  simp only [done_split]
  unfold four
  rw [acc_slots, acc_slots]
  iintro ⟨HO, Hst, ⟨Hac0, Hac1⟩, ⟨⟨Hs0, Hg0⟩, Hs1, Hg1⟩, ⟨⟨Hs2, Hg2⟩, Hs3, Hg3⟩, ⟨Hp0, Hp1⟩, Hb, Hl0, Hl1⟩
  isplitr [HO Hst]
  · isplitl [Hg2 Hg3 Hp0 Hp1]
    · iapply (out_join (inp m) c)
      isplitl [Hg2 Hp0]
      · isplitl [Hp0]; · iexact Hp0
        iexact Hg2
      · isplitl [Hp1]; · iexact Hp1
        iexact Hg3
    isplitl [Hg0 Hg1 Hac0 Hac1]
    · isplitl [Hg0]; · iapply (landed_free (inp m) false c); iexact Hg0
      isplitl [Hg1]; · iapply (landed_free (inp m) true c); iexact Hg1
      isplitl [Hac0]; · iexact Hac0
      iexact Hac1
    isplitr [Hb]
    · isplitl [Hs0 Hs1 Hs2 Hs3]
      · isplitl [Hs0 Hs1]
        · isplitl [Hs0]; · iexact Hs0
          iexact Hs1
        · isplitl [Hs2]; · iexact Hs2
          iexact Hs3
      · isplitl [Hl0]; · iexact Hl0
        iexact Hl1
    · iexact Hb
  · isplitl [HO]; · iexact HO
    iexact Hst

end Cert.RingProof

end
-- ==== Proof.Run.lean ====
/-
# The run

The launch of the eight devices, and what the run ends with: the inputs as they were, the output `Inp.out` on
every device, and every counter at zero.
-/
module

public import proofs.«01_k».proof.Proof.Enter

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body -/

/-- A staging buffer of device `c` at `X`. -/
abbrev stg (c : Dev nD) (b : Ref sig .tc) (X : b.ty.Contents (Elt F)) : sProp 𝕄 :=
  iprop(∃ g : Buf (Elt F) ((c : Thread nD τ).loc b), ⌜g = X⌝ ∗ ((c : Thread nD τ).loc b) ↦{fullShare} g)

theorem has_whole (c : Dev nD) (b : Ref sig .tc) (X : b.ty.Contents (Elt F)) :
    (has c (Memref.whole b) X : sProp 𝕄) = ((c : Thread nD τ).loc b) ↦{fullShare} X := owns_whole ..

theorem stg_eq (c : Dev nD) (b : Ref sig .tc) (X : b.ty.Contents (Elt F)) : (stg c b X : sProp 𝕄) ⊢ has c (Memref.whole b) X := by
  rw [has_whole]
  iintro ⟨%g, %h, H⟩
  subst h
  iexact H

theorem stg_intro (c : Dev nD) (b : Ref sig .tc) (X : b.ty.Contents (Elt F)) : (has c (Memref.whole b) X : sProp 𝕄) ⊢ stg c b X := by
  rw [has_whole]
  iintro H
  iexists X
  isplitr; · ipureintro; rfl
  iexact H

def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost (c : Dev nD) : sProp 𝕄 :=
  iprop(Φ₁ m c ∗ (dats m 0 c).owesAt () t0_0.succ
    ∗ stg c cc0_stg0_0 ((inp m).x c) ∗ stg c cc0_stg1_0 ((inp m).w c) ∗ stg c cc0_stg2_0 ((inp m).sx c) ∗ stg c cc0_stg3_0 ((inp m).sw c))

theorem before_0 (c : Dev nD) (d) : (dats m 0 c).before (0 : Fin 4) t0_0 d = (inp m).x c := by
  unfold Dat.before; rw [if_pos (fetch0_0 t0_0)]; rfl
theorem before_1 (c : Dev nD) (d) : (dats m 0 c).before (1 : Fin 4) t0_0 d = (inp m).w c := by
  unfold Dat.before; rw [if_pos (fetch0_1 t0_0)]; rfl
theorem before_2 (c : Dev nD) (d) : (dats m 0 c).before (2 : Fin 4) t0_0 d = (inp m).sx c := by
  unfold Dat.before; rw [if_pos (fetch0_2 t0_0)]; rfl
theorem before_3 (c : Dev nD) (d) : (dats m 0 c).before (3 : Fin 4) t0_0 d = (inp m).sw c := by
  unfold Dat.before; rw [if_pos (fetch0_3 t0_0)]; rfl

theorem owes_in (c : Dev nD) : ((dats m 0 c).owesAt () t0_0.castSucc : sProp 𝕄) ⊢ owesAny c (O₀ c) := by
  unfold Dat.owesAt Pipeline.owesWithin owesAny
  rw [show (dats m 0 c).owed t0_0.castSucc = O₀ c from rfl]
  iintro ⟨%W, -, H⟩
  iexists W; iexact H

theorem owes_out (c : Dev nD) : owesAny c 0 ⊢ ((dats m 0 c).owesAt () t0_0.succ : sProp 𝕄) := by
  unfold Dat.owesAt Pipeline.owesWithin owesAny
  rw [show (dats m 0 c).owed t0_0.succ = 0 from rfl]
  iintro ⟨%W, H⟩
  iexists W
  isplitr; · ipureintro; exact fun _ _ => Or.inl trivial
  iexact H

/-- What the body is given holds what it starts from, -/
theorem pre_start (c : Dev nD) : (bodyPre m c : sProp 𝕄) ⊢ iprop(∃ K, env (inp m) K ∗ start (inp m) c) := by
  unfold bodyPre Φ₀ enter
  simp only [before_0, before_1, before_2, before_3]
  iintro ⟨⟨⟨⟨%K, #He, Hl⟩, Hc, Hout⟩, Hw⟩, HO, ⟨%d0, H0⟩, ⟨%d1, H1⟩, ⟨%d2, H2⟩, ⟨%d3, H3⟩⟩
  iexists K
  isplitr; · iexact He
  iapply (start_intro m K c)
  isplitl [HO]; · iapply (owes_in m c); iexact HO
  isplitl [H0 H1 H2 H3]
  · unfold staged
    isplitl [H0]; · iapply (stg_eq c cc0_stg0_0 ((inp m).x c)); iexact H0
    isplitl [H1]; · iapply (stg_eq c cc0_stg1_0 ((inp m).w c)); iexact H1
    isplitl [H2]; · iapply (stg_eq c cc0_stg2_0 ((inp m).sx c)); iexact H2
    iapply (stg_eq c cc0_stg3_0 ((inp m).sw c)); iexact H3
  isplitl [Hl]; · iexact Hl
  isplitl [Hc]; · iexact Hc
  isplitl [Hout]; · iexact Hout
  iexact Hw

/-- and what it ends with is what it is to give. -/
theorem finish_post (c : Dev nD) : (finish (inp m) c : sProp 𝕄) ⊢ bodyPost m c := by
  unfold bodyPost
  iintro H
  ihave H := (finish_elim m c) $$ H
  unfold staged
  icases H with ⟨HΦ, HO, H0, H1, H2, H3⟩
  isplitl [HΦ]; · iexact HΦ
  isplitl [HO]; · iapply (owes_out m c); iexact HO
  isplitl [H0]; · iapply (stg_intro c cc0_stg0_0 ((inp m).x c)); iexact H0
  isplitl [H1]; · iapply (stg_intro c cc0_stg1_0 ((inp m).w c)); iexact H1
  isplitl [H2]; · iapply (stg_intro c cc0_stg2_0 ((inp m).sx c)); iexact H2
  iapply (stg_intro c cc0_stg3_0 ((inp m).sw c)); iexact H3

theorem wp_dev (c : Dev nD) {α : Type} (k : Dev nD → TProg F α) (Q : α → sProp 𝕄) :
    (wpb c (k c) Q) ⊢ wpb c (Prog.lift .deviceId >>= k) Q := by
  simp only [Prog.lift, Prog.bind_op, Prog.bind_ret, Prog.pure_eq_ret, wp_deviceId]
  exact .rfl

theorem sound_body (c : Dev nD) : (bodyPre m c : sProp 𝕄) ⊢ wpb c bodyProg (fun _ => bodyPost m c) := by
  rw [bodyProg_eq]
  have hw := fun K => wp_walk (inp m) K c (α := PUnit) (Q := fun _ => bodyPost m c) (kt := fun _ => .ret ⟨⟩)
  have hb : (walk (F := F) c >>= fun _ : PUnit => (.ret ⟨⟩ : TProg F PUnit)) = walk c := by
    rw [show (fun _ : PUnit => (.ret ⟨⟩ : TProg F PUnit)) = Pure.pure from rfl, bind_pure]
  simp only [hb] at hw
  refine BIBase.Entails.trans ?_ (wp_dev c (fun c => walk c) fun _ => bodyPost m c)
  refine BIBase.Entails.trans (pre_start m c) ?_
  iintro ⟨%K, H⟩
  iapply (hw K) $$ H
  iintro H
  unfold wpb
  rw [wp_ret]
  imodintro
  iapply (finish_post m c)
  iexact H

set_option maxRecDepth 16384 in
/-- The body of the call on device `c`. -/
theorem body_obligation (c : Dev nD) : BodyObligation (dats m 0 c) (defs₀ (F := F)) 𝒱₀ () Set.univ := fun t => by
  rw [fin_N0 t]
  rw [bigSep_W0, bigSep_W0]
  simp only [owns_whole_eq]
  show bodyPre m c ⊢ wpb c bodyProg (fun _ => bodyPost m c)
  exact sound_body m c

/-! ## The launch -/

theorem ownSemFacts : Pipeline.OwnSemFacts cfg0.spec osem where
  isScoped k := by
    have h : ∀ v : DmaSem sig, (SemLoc.dma v).isScoped .tc = true := by decide
    match k with
    | .inl (ph, s, rc, t) => exact h _
    | .inr s => exact h _
  inj := fun a b h => Option.some.inj (csem_injective (show csem (some a) = csem (some b) from h))
  disj := fun k w s h => by
    have hst : ∀ (w : Fin cfg0.W) (s : Fin (cfg0.spec w).nbuf), ((cfg0.spec w).sem s).val < 4 := by decide
    match k, h with
    | .inl (ph, sd, rc, t), h => exact xsem_ge ph sd rc t (by rw [SemLoc.dma.inj h]; exact hst w s)
    | .inr sd, h => exact lsem_ge sd (by rw [SemLoc.dma.inj h]; exact hst w s)

theorem share_eq (c : Dev nD) (w : Fin cfg0.W) : (dats m 0 c).share w = fullShare := by unfold Dat.share; split <;> rfl

theorem enter_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inp m) c)
      ⊢ |={Set.univ}=> iprop(enter m c ∗ emp) := by
  rw [Pipeline.unscopedRestP_none, unscopedRest0_eq]
  unfold enter G'
  iintro ⟨Hout, Hlev, Hcr, -, ⟨%K, Hrec, Hl⟩⟩
  imodintro
  isplitl
  · isplitl [Hlev Hrec Hl]
    · iexists K
      unfold records env
      icases Hrec with ⟨H1, H2⟩
      isplitl [H1 H2 Hlev]
      · isplitl [H1]; · iexact H1
        isplitl [H2]; · iexact H2
        iexact Hlev
      iexact Hl
    isplitl [Hcr]; · iapply (creds_intro c); iexact Hcr
    rw [free_whole]
    iexists _; iexact Hout
  · iempintro

theorem phi0_intro (c : Dev nD) :
    iprop(enter m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, work_eq]
  unfold Φ₀
  iintro ⟨He, -, Hw⟩
  isplitl [He]; · iexact He
  iexact Hw

theorem phi1_exit (c : Dev nD) :
    (dats m 0 c).Φ (Fin.last cfg0.N) ⊢ iprop((has c outM (inp m).out ∗ unscopedSems0 c) ∗ ownZero c ∗ Pipeline.scopedRest cfg0.spec c) := by
  rw [show (dats m 0 c).Φ (Fin.last cfg0.N) = Φ₁ m c from rfl, work_eq, unscopedSems0_eq]
  unfold Φ₁
  iintro ⟨Ho, Hw, Hz, Hb⟩
  isplitl [Ho Hb]
  · isplitl [Ho]; · iexact Ho
    iexact Hb
  isplitl [Hz]; · iexact Hz
  iexact Hw

theorem waits (c : Dev nD) : (levAts L lv : sProp 𝕄) ⊢ Pipeline.cellsWaits cfgs (dats m) () 0 c :=
  Pipeline.cellsWaits_intro cfgs (dats m) () 0 c fun w s t =>
    mayWait_stage c _ (by revert w s; decide) _ (by
      rcases t with ⟨_ | _, ht⟩
      · exact Or.inl rfl
      · exact Or.inr rfl)

/-- What device `c` holds at the end: the finished output, and the counters that belong to no call at zero. -/
def QY (c : Dev nD) (s : MemSt nD τ sig (Elt F)) : Prop :=
  s.mem ((c : Thread nD τ).loc main_v1) = (inp m).out
    ∧ ∀ sm : SemLoc sig, sm.isScoped .tc = false → s.sem ((c.tc : Thread nD τ), sm) = 0

theorem read_out (c : Dev nD) (s' : Phys nD τ sig (Elt F)) :
    iprop((has c outM (inp m).out ∗ unscopedSems0 c) ∗ emp ∗ SI s') ⊢ |={Set.univ}=> iprop(⌜QY m c s'.mem⌝ ∗ SI s') := by
  rw [show (has c outM (inp m).out : sProp 𝕄) = _ from has_whole c main_v1 (inp m).out]
  iintro ⟨⟨Ho, Hu⟩, -, HSI⟩
  ihave %h := (SI_pointsTo_agree (st := s') (ℓ := (c : Thread nD τ).loc main_v1) (I := Finset.univ) (q := fullShare) (f := (inp m).out)) $$ [HSI Ho]
  · isplitl [HSI]; · iexact HSI
    iexact Ho
  imod (Pipeline.unscopedSems0_read (X := unscopedSems0 c) (c := c) fupd_intro s') $$ [Hu HSI] with ⟨%h2, HSI⟩
  · isplitl [Hu] <;> iassumption
  imodintro
  isplitr
  · ipureintro
    exact ⟨funext fun i => h i (Finset.mem_univ i), h2⟩
  iexact HSI

/-- What the run ends with. -/
def QC (r : PUnit × MemSt nD τ sig (Elt F)) : Prop :=
  (∀ c : Dev nD, r.2.mem ((c : Thread nD τ).loc main_v1) = (inp m).out
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3))
  ∧ r.2.sem = fun _ => 0

set_option maxRecDepth 16384 in
/-- From any memory with zero counters the program ends, on every device and for any float values, with the
    output `Inp.out`, its arguments as they were, and every counter at zero. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun c => main_chain c)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (inp m)) (G' := G' (inp m)) (u₀ := u₀)
    (hu₀ := by
      unfold u₀
      iintro Hu
      ihave H := (ownU_pair _ _) $$ Hu
      icases H with ⟨HP, HX⟩
      imod (fund_ring (inp m)) $$ HX with HG
      imodintro
      isplitl [HP] <;> iassumption)
    (hglob := glob (inp m))
    (hA := fun _ _ => rfl) (hpf := fun _ k => k.elim0)
    (X := enter m) (Y := fun c => iprop(has c outM (inp m).out ∗ unscopedSems0 c)) (Z := fun _ => iprop(emp))
    (hX := enter_intro m ρ) (hin := phi0_intro m) (hout := phi1_exit m)
    (QY := QY m)
    (hY := read_out m)
    (hQ := fun s h hs => ⟨fun c => ⟨(h c).2.2.1,
        ((h c).1 0).trans ((dats m 0 c).arrAt_in (0 : Fin 4) rfl _), ((h c).1 1).trans ((dats m 0 c).arrAt_in (1 : Fin 4) rfl _),
        ((h c).1 2).trans ((dats m 0 c).arrAt_in (2 : Fin 4) rfl _), ((h c).1 3).trans ((dats m 0 c).arrAt_in (3 : Fin 4) rfl _)⟩,
      sem_eq_zero hs fun c => (h c).2.2.2⟩)

end Cert.RingProof

end
-- ==== Proof.Frames.lean ====
/-
# The frames

The two kernel programs have the same text, so both frames are the one run of `Run.lean`, read at the
bit patterns and at the extended reals, with what it says of the output dropped.
-/
module

public import proofs.«01_k».proof.Defs
public import proofs.«01_k».proof.Proof.Run
public import proofs.«01_k».proof.Proof.Gen.Kernel
public import proofs.«01_k».proof.Proof.Gen.ReferenceIdeal.Frame

@[expose] public section

noncomputable section

namespace Cert.RingProof

open Idealize.ShloMosaic Idealize.SL.Sem

/-- What a frame says at the end of a run that began in `m`. -/
def Kept {F : FTy → Type} [FloatOps F] (m : (ℓ : Loc Cert.KernelIdeal.nD Cert.KernelIdeal.τ Cert.KernelIdeal.sig) → Buf (Elt F) ℓ)
    (r : PUnit × MemSt Cert.KernelIdeal.nD Cert.KernelIdeal.τ Cert.KernelIdeal.sig (Elt F)) : Prop :=
  (∀ c : Dev Cert.KernelIdeal.nD, r.2.mem ((c.tc : Thread _ Cert.KernelIdeal.τ).loc Cert.KernelIdeal.main_arg0) = m ((c.tc : Thread _ Cert.KernelIdeal.τ).loc Cert.KernelIdeal.main_arg0)
    ∧ r.2.mem ((c.tc : Thread _ Cert.KernelIdeal.τ).loc Cert.KernelIdeal.main_arg1) = m ((c.tc : Thread _ Cert.KernelIdeal.τ).loc Cert.KernelIdeal.main_arg1)
    ∧ r.2.mem ((c.tc : Thread _ Cert.KernelIdeal.τ).loc Cert.KernelIdeal.main_arg2) = m ((c.tc : Thread _ Cert.KernelIdeal.τ).loc Cert.KernelIdeal.main_arg2)
    ∧ r.2.mem ((c.tc : Thread _ Cert.KernelIdeal.τ).loc Cert.KernelIdeal.main_arg3) = m ((c.tc : Thread _ Cert.KernelIdeal.τ).loc Cert.KernelIdeal.main_arg3))
  ∧ r.2.sem = fun _ => 0

/-- The run with its output dropped. -/
theorem kept {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (Kept m) :=
  (θ_run Cert.KernelIdeal.defs _ _).mono (fun _ h => ⟨fun c => (h.1 c).2, h.2⟩) (run_main m ρ)

/-- The two programs have the same table of kernel bodies. -/
theorem bodies_eq {F : FTy → Type} [FloatOps F] : Cert.Kernel.defs₀ (F := F) = Cert.KernelIdeal.defs₀ (F := F) := by
  unfold Cert.Kernel.defs₀ Cert.KernelIdeal.defs₀
  congr 1
  funext l a
  match l, a with
  | 0, (_, _) => rfl

/-- And so the same definitions. -/
theorem defs_eq {F : FTy → Type} [FloatOps F] : Cert.Kernel.defs (F := F) = Cert.KernelIdeal.defs (F := F) :=
  congrArg (Pipeline.defs Cert.KernelIdeal.pcfgs) bodies_eq

/-- The frame of the kernel on bit patterns. -/
theorem frame_kernel : Cert.quiescent_Kernel := fun m ρ _ =>
  (congrArg (fun D => θ_run D (onTc (τ := Cert.KernelIdeal.τ) (Cert.KernelIdeal.main (F := Bits))) ⟨m, fun _ => 0, ρ⟩ (Kept m))
    (defs_eq (F := Bits))).mpr (kept (F := Bits) m ρ)

/-- The frame of the kernel on extended reals. -/
theorem frame_ideal : Cert.quiescent_KernelIdeal := fun m ρ _ => kept (F := Ideal) m ρ

/-- The frame of the reference. -/
theorem frame_reference : Cert.quiescent_ReferenceIdeal := fun m ρ _ => Cert.ReferenceIdeal.Gen.frame m ρ

end Cert.RingProof

end
-- ==== Proof.Algebra.lean ====
/-
# Sums and scales

A sum over 4096 is a sum over eight of sums over 512, and a scale that is not negative and not infinite comes
out of a sum of extended reals, whatever the summands are.
-/
module

public import Mathlib.Data.EReal.Operations
public import Mathlib.Algebra.BigOperators.Fin
public import Mathlib.Logic.Equiv.Fin.Basic

@[expose] public section

noncomputable section

namespace Cert.RingProof

open scoped BigOperators

/-- The scale comes out of the sum. -/
theorem sum_scaled {ι : Type} (S : Finset ι) (f : ι → EReal) {σ : EReal} (h0 : 0 ≤ σ) (h1 : σ ≠ ⊤) :
    ∑ d ∈ S, f d * σ = (∑ d ∈ S, f d) * σ := by
  classical
  induction S using Finset.induction_on with
  | empty => simp
  | insert a S ha ih =>
    rw [Finset.sum_insert ha, Finset.sum_insert ha, ih, EReal.right_distrib_of_nonneg_of_ne_top h0 h1]

/-- Place `l` of the `d`-th 512. -/
theorem cut_lt (d : Fin 8) (l : Fin 512) : d.val * 512 + l.val < 4096 := by omega

/-- A sum over 4096, cut in eight. -/
theorem sum_cut (f : Fin 4096 → EReal) :
    ∑ d : Fin 8, ∑ l : Fin 512, f ⟨d.val * 512 + l.val, cut_lt d l⟩ = ∑ k : Fin 4096, f k := by
  rw [← Fintype.sum_prod_type' (f := fun (d : Fin 8) (l : Fin 512) => f ⟨d.val * 512 + l.val, cut_lt d l⟩),
    ← (finProdFinEquiv (m := 8) (n := 512)).sum_comp (fun k : Fin (8 * 512) => f k)]
  refine Finset.sum_congr rfl fun p _ => congrArg f (Fin.ext ?_)
  show p.1.val * 512 + p.2.val = p.2.val + 512 * p.1.val
  omega

end Cert.RingProof

end
-- ==== Proof.BlockValue.lean ====
/-
# What the kernel computes, over the extended reals

One device's block is a product over its own 512 columns of `x`, times its scale. A finished piece is the sum
of what the eight devices contribute to it, in the order in which the ring visits them; over the extended
reals the order does not matter.
-/
module

public import proofs.«01_k».proof.Proof.Enter
public import Idealize.ShloMosaic.Lib.MatmulPlain
public import Idealize.ShloMosaic.Lib.ValueIdx

@[expose] public section

noncomputable section

namespace Cert.RingProof

open Cert.KernelIdeal Cert.KernelIdeal.Gen
open Idealize.ShloMosaic Idealize.ShloMosaic.TcCoe Idealize.SL.Sem
open Idealize.ShloMosaic.ValueIdx
open scoped BigOperators

/-! ## One block -/

/-- One block, entry by entry. -/
theorem gemm_apply (x : Vec Ideal S256x512 .fp8e5m2) (w : Vec Ideal S512x2048 .fp8e5m2) (sc : EReal) (r : Fin 256) (j : Fin 2048) :
    gemm x w sc (ix2 r j) = (∑ k : Fin 512, (x (ix2 r k) * w (ix2 k j) : EReal)) * sc := by
  unfold gemm
  rw [mulf_apply, shapeCast_self, shapeCast_self]
  refine congrArg (· * sc) ?_
  refine (Ideal.matmul_plain_apply (M := 256) (K := 512) (N := 2048) none _ _ _ r j).trans ?_
  rw [constant_apply, Ideal.ofBits_zero_f32, zero_add]
  rfl

/-- A row of a block of rows of `x`. -/
theorem row_lt (s : Bool) (k : Fin 8) (r : Fin 256) : rowOf s k + r.val < 4096 := by
  have := k.isLt; have := r.isLt
  unfold rowOf; split <;> omega

variable (I : Inp Ideal)

/-- Device `c`'s columns of `x`, and its rows of `w`, as extended reals. -/
def xval (c : Dev nD) : S4096x512.Idx → EReal := I.x c
def wval (c : Dev nD) : S512x2048.Idx → EReal := I.w c

/-- What device `c` contributes to an entry of side `s` of block `k`. -/
theorem part_apply (c : Dev nD) (s : Bool) (k : Fin 8) (r : Fin 256) (j : Fin 2048) :
    I.part c s k (ix2 r j)
      = (∑ l : Fin 512, xval I c (ix2 ⟨rowOf s k + r.val, row_lt s k r⟩ l) * wval I c (ix2 l j)) * I.scale c := by
  unfold Inp.part
  rw [gemm_apply]
  refine congrArg (· * I.scale c) (Finset.sum_congr rfl fun l _ => ?_)
  refine congrArg₂ (· * ·) (congrArg (xval I c) ?_) (congrArg (wval I c) ?_)
  · refine funext fun a => Fin.ext ?_
    fin_cases a
    · show rowOf s k + 1 * r.val = rowOf s k + r.val
      omega
    · show 0 + 1 * l.val = l.val
      omega
  · refine funext fun a => Fin.ext ?_
    fin_cases a
    · show 0 + 1 * l.val = l.val
      omega
    · show 0 + 1 * j.val = j.val
      omega

/-! ## A finished piece -/

/-- The partial sum at step `n` collects what the last `n + 1` devices contribute. -/
theorem acc_apply (s : Bool) (i : S256x2048.Idx) : ∀ (n : ℕ) (c : Dev nD),
    (I.acc s n c i : EReal) = ∑ t ∈ Finset.range (n + 1), (I.part ((prv s)^[t] c) s (chk s c n) i : EReal)
  | 0, c => by rw [Finset.sum_range_one]; rfl
  | n + 1, c => by
    rw [Finset.sum_range_succ', add_comm (Finset.sum _ _)]
    refine congrArg (I.part c s (chk s c (n + 1)) i + ·) ((acc_apply s i n (prv s c)).trans ?_)
    rw [chk_prv]
    rfl

theorem chk_owner (s : Bool) (k : Fin 8) : chk s (owner s k) 7 = k := by revert s k; decide

/-- Eight steps of the ring visit every device once. -/
theorem visits (s : Bool) (c : Dev nD) : Function.Bijective fun t : Fin 8 => (prv s)^[t.val] c := by
  revert s c; decide

/-- A finished piece is the sum of what the devices contribute to it. -/
theorem total_apply (s : Bool) (k : Fin 8) (i : S256x2048.Idx) :
    (I.total s k i : EReal) = ∑ d : Dev nD, (I.part d s k i : EReal) := by
  unfold Inp.total
  rw [acc_apply, chk_owner, Finset.sum_range]
  exact (visits s (owner s k)).sum_comp fun d => (I.part d s k i : EReal)

/-! ## From the memory at launch -/

variable {F : FTy → Type} [FloatOps F] (m : (ℓ : Loc nD τ sig) → Buf (Elt F) ℓ)

theorem inp_x (c : Dev nD) : (inp m).x c = m ((c : Thread nD τ).loc main_arg0) := by
  show (win0_0.blk t0_0).view.read (Elt F) (m ((c : Thread nD τ).loc main_arg0)) = _
  exact Memref.read_access_unit_zero (Elt F) main_arg0 (funext fun a => Nat.zero_mul _) _ _

theorem inp_w (c : Dev nD) : (inp m).w c = m ((c : Thread nD τ).loc main_arg1) := by
  show (win0_1.blk t0_0).view.read (Elt F) (m ((c : Thread nD τ).loc main_arg1)) = _
  exact Memref.read_access_unit_zero (Elt F) main_arg1 (funext fun a => Nat.zero_mul _) _ _

theorem inp_sx (c : Dev nD) : (inp m).sx c = m ((c : Thread nD τ).loc main_arg2) := by
  show (win0_2.blk t0_0).view.read (Elt F) (m ((c : Thread nD τ).loc main_arg2)) = _
  exact Memref.read_access_unit_zero (Elt F) main_arg2 (funext fun a => Nat.zero_mul _) _ _

theorem inp_sw (c : Dev nD) : (inp m).sw c = m ((c : Thread nD τ).loc main_arg3) := by
  show (win0_3.blk t0_0).view.read (Elt F) (m ((c : Thread nD τ).loc main_arg3)) = _
  exact Memref.read_access_unit_zero (Elt F) main_arg3 (funext fun a => Nat.zero_mul _) _ _

/-- There is one place in an array of one value. -/
theorem one_place (i j : S1.Idx) : i = j := by
  rw [eq_ix1 i, eq_ix1 j]
  exact congrArg ix1 (Fin.ext (by have a : (i 0).val < 1 := (i 0).isLt; have b : (j 0).val < 1 := (j 0).isLt; omega))

/-- The scale of device `c` is the product of its two scales. -/
theorem scale_eq (c : Dev nD) : (inp (F := F) m).scale c
    = Scalar.mulf (m ((c : Thread nD τ).loc main_arg2) (ix1 0)) (m ((c : Thread nD τ).loc main_arg3) (ix1 0)) := by
  have zero : (![0] : Fin 1 → ℕ) = fun _ => 0 := funext fun a => by fin_cases a; rfl
  unfold Inp.scale
  rw [inp_sx, inp_sw]
  refine congrArg₂ k0_pay1 ?_ ?_
  · exact (congrFun (Memref.read_access_unit_zero (Elt F) cc0_stg2_0 zero _ _) _).trans (congrArg _ (one_place _ _))
  · exact (congrFun (Memref.read_access_unit_zero (Elt F) cc0_stg3_0 zero _ _) _).trans (congrArg _ (one_place _ _))

end Cert.RingProof

end
-- ==== Proof.RefValue.lean ====
/-
# What the reference computes

Its one block is the whole array: the product of the two operands, times the product of the two scales.
-/
module

public import proofs.«01_k».proof.Proof.Gen.ReferenceIdeal.Value
public import Idealize.ShloMosaic.Lib.MatmulPlain
public import Idealize.ShloMosaic.Lib.Tactic

@[expose] public section

noncomputable section

namespace Cert.RefValue

open Cert.ReferenceIdeal Cert.ReferenceIdeal.Gen
open Idealize.ShloMosaic Idealize.ShloMosaic.TcCoe Idealize.SL.Sem
open Idealize.ShloMosaic.ValueIdx
open scoped BigOperators

variable {F : FTy → Type} [FloatOps F]
variable (m : (ℓ : Loc nD τ sig) → Buf (Elt F) ℓ) (ρ : Dev nD → PrngReg)

theorem zero2 : (![0, 0] : Fin 2 → ℕ) = fun _ => 0 := funext fun a => by fin_cases a <;> rfl
theorem zero1 : (![0] : Fin 1 → ℕ) = fun _ => 0 := funext fun a => by fin_cases a; rfl

/-- What the body stores, of what it loads. -/
theorem stored (c : Dev nD) (a0 : Memref sig .tc .vmem S4096x4096 .fp8e5m2) (h0 : a0.IsWhole)
    (a1 : Memref sig .tc .vmem S4096x2048 .fp8e5m2) (h1 : a1.IsWhole) (a2 : Memref sig .tc .smem S1 .f32) (h2 : a2.IsWhole)
    (a3 : Memref sig .tc .smem S1 .f32) (h3 : a3.IsWhole) (a4 : Memref sig .tc .vmem S4096x2048 .f32) (h4 : a4.IsWhole)
    (x : Vec F S4096x4096 .fp8e5m2) (w : Vec F S4096x2048 .fp8e5m2) (u v : Vec F S1 .f32) :
    out0_A_4 c a0 h0 a1 h1 a2 h2 a3 h3 a4 h4 x w u v = k0_pay1 x w (u (ix1 0)) (v (ix1 0)) := by
  unfold out0_A_4
  rw [View.read_writes_eq_canon _ _ _ (cover0_A_4 c a0 h0 a1 h1 a2 h2 a3 h3 a4 h4 x w u v)]
  unfold kernelRun0_A
  dsimp only
  rw [View.canon_unit_zero zero2]
  simp only [View.readAt_eq_ld, h0.read_unread, h1.read_unread, h2.read_unread, h3.read_unread,
    View.ld_unit_zero (S := S4096x4096) zero2, View.ld_unit_zero (S := S4096x2048) zero2]
  sl_unfold_words
  simp only [View.readAt_eq_ld, h2.read_unread, h3.read_unread]
  have one (i j : S1.Idx) : i = j := by
    rw [eq_ix1 i, eq_ix1 j]; exact congrArg ix1 (Fin.ext (by have a : (i 0).val < 1 := (i 0).isLt; have b : (j 0).val < 1 := (j 0).isLt; omega))
  have e (y : Vec F S1 .f32) : View.ld y (Rect.unit ![0] S1.size inb_S1_S1_0) = y :=
    View.ld_unit_zero (S := S1) zero1 _ y
  refine congrArg₂ (k0_pay1 x w) ?_ ?_
  · exact (congrFun (e u) _).trans (congrArg u (one _ _))
  · exact (congrFun (e v) _).trans (congrArg v (one _ _))

theorem block_x (c : Dev nD) : iblk m c 0 t0_0 = m ((c : Thread nD τ).loc main_arg0) := by
  show (win0_0.blk t0_0).view.read (Elt F) (m ((c : Thread nD τ).loc main_arg0)) = _
  exact Memref.read_access_unit_zero (Elt F) main_arg0 (funext fun a => Nat.zero_mul _) _ _

theorem block_w (c : Dev nD) : iblk m c 1 t0_0 = m ((c : Thread nD τ).loc main_arg1) := by
  show (win0_1.blk t0_0).view.read (Elt F) (m ((c : Thread nD τ).loc main_arg1)) = _
  exact Memref.read_access_unit_zero (Elt F) main_arg1 (funext fun a => Nat.zero_mul _) _ _

theorem block_u (c : Dev nD) : iblk m c 2 t0_0 = m ((c : Thread nD τ).loc main_arg2) := by
  show (win0_2.blk t0_0).view.read (Elt F) (m ((c : Thread nD τ).loc main_arg2)) = _
  exact Memref.read_access_unit_zero (Elt F) main_arg2 (funext fun a => Nat.zero_mul _) _ _

theorem block_v (c : Dev nD) : iblk m c 3 t0_0 = m ((c : Thread nD τ).loc main_arg3) := by
  show (win0_3.blk t0_0).view.read (Elt F) (m ((c : Thread nD τ).loc main_arg3)) = _
  exact Memref.read_access_unit_zero (Elt F) main_arg3 (funext fun a => Nat.zero_mul _) _ _

/-- The result, of the arguments. -/
def result (c : Dev nD) : Buf (Elt F) ((c : Thread nD τ).loc main_v0) :=
  k0_pay1 (m ((c : Thread nD τ).loc main_arg0)) (m ((c : Thread nD τ).loc main_arg1))
    (m ((c : Thread nD τ).loc main_arg2) (ix1 0)) (m ((c : Thread nD τ).loc main_arg3) (ix1 0))

/-- What is written back is the result, -/
theorem written (c : Dev nD) : (dats m 0 c).flushed 4 t0_0 = result m c := by
  rw [Value.flushed4_A, stored, block_x, block_w, block_u, block_v]
  rfl

/-- and it is the whole array. -/
theorem final (c : Dev nD) : (dats m 0 c).arrAt 4 cfg0.N = result m c := by
  have h := Value.blocks4 m c t0_0 (flush0_4 t0_0)
  rw [written] at h
  exact (Memref.read_access_unit_zero (Elt F) main_v0 (funext fun a => Nat.zero_mul _) _ _).symm.trans h

/-- The run of the reference. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.RefValue

end
-- ==== Proof.Equation.lean ====
/-
# The two compute the same

The whole of `x` is cut by columns over the devices and the whole of `w` by rows, so the eight sums over 512 of a
finished piece are the one sum over 4096 of the reference; and the scale, the same on every device, comes out
of the sum over the devices because it is neither negative nor infinite.
-/
module

public import proofs.«01_k».proof.Defs
public import proofs.«01_k».proof.Proof.Algebra
public import proofs.«01_k».proof.Proof.BlockValue
public import proofs.«01_k».proof.Proof.RefValue
public import proofs.«01_k».proof.Proof.Run

@[expose] public section

noncomputable section

namespace Cert.RingProof

open Idealize.ShloMosaic Idealize.ShloMosaic.TcCoe Idealize.SL.Sem
open Idealize.ShloMosaic.ValueIdx
open scoped BigOperators

/-! ## The reference, entry by entry -/

/-- The reference's product, scaled. -/
theorem ref_apply (x : Vec Ideal ⟨2, ![4096, 4096]⟩ .fp8e5m2) (w : Vec Ideal ⟨2, ![4096, 2048]⟩ .fp8e5m2) (u v : EReal)
    (i : Fin 4096) (j : Fin 2048) :
    Cert.ReferenceIdeal.Gen.k0_pay1 (F := Ideal) x w u v (ix2 i j) = (∑ k : Fin 4096, (x (ix2 i k) * w (ix2 k j) : EReal)) * (u * v) := by
  unfold Cert.ReferenceIdeal.Gen.k0_pay1
  rw [mulf_apply]
  refine congrArg (· * (u * v)) ?_
  refine (Ideal.matmul_plain_apply (M := 4096) (K := 4096) (N := 2048) none _ _ _ i j).trans ?_
  rw [constant_apply, Ideal.ofBits_zero_f32, zero_add]
  rfl

/-! ## The precondition -/

instance pre_kernel : Cert.Pre_scale_in_range_KernelIdeal.Facts := ⟨by decide⟩
instance pre_reference : Cert.Pre_scale_in_range_ReferenceIdeal.Facts := ⟨by decide⟩

/-- Two bits whose conjunction is set are both set. -/
theorem both_set : ∀ {a b : BitVec 1}, a &&& b = 1#1 → a = 1#1 ∧ b = 1#1 := by decide

theorem ge_of_cmp {x y : EReal} (h : Idealize.ShloMosaic.Ideal.cmp .oge x y = 1#1) : y ≤ x := by
  by_contra hn
  revert h
  simp [Idealize.ShloMosaic.Ideal.cmp, hn]

theorem lt_of_cmp {x y : EReal} (h : Idealize.ShloMosaic.Ideal.cmp .olt x y = 1#1) : x < y := by
  by_contra hn
  revert h
  simp [Idealize.ShloMosaic.Ideal.cmp, hn]

/-- What the precondition says of the two scales. -/
theorem scale_range (x : Vec Ideal ⟨2, ![4096, 512]⟩ .fp8e5m2) (w : Vec Ideal ⟨2, ![512, 2048]⟩ .fp8e5m2) (u v : Vec Ideal ⟨1, ![1]⟩ .f32)
    (h : Cert.Pre_scale_in_range_KernelIdeal.fn (F := Ideal) x w u v = fun _ => 1#1) :
    (0 : EReal) ≤ u (ix1 0) * v (ix1 0) ∧ (u (ix1 0) * v (ix1 0) : EReal) ≠ ⊤ := by
  have h := congrFun h (ix1 0)
  obtain ⟨ha, hb⟩ := both_set h
  have ha : Idealize.ShloMosaic.Ideal.cmp .oge (u (ix1 0) * v (ix1 0)) (Idealize.ShloMosaic.Ideal.ofBits .f32 0x00000000#32) = 1#1 := ha
  have hb : Idealize.ShloMosaic.Ideal.cmp .olt (u (ix1 0) * v (ix1 0)) (FloatOps.ofBits (F := Ideal) .f32 0x7F800000#32) = 1#1 := hb
  rw [Ideal.ofBits_zero_f32] at ha
  exact ⟨ge_of_cmp ha, ne_top_of_lt (lt_of_cmp hb)⟩

/-! ## The equation -/

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The devices' arrays are their parts of the reference's. -/
def Parts : Prop := ∀ c : Dev Cert.KernelIdeal.nD,
  m ((c : Thread Cert.KernelIdeal.nD Cert.KernelIdeal.τ).loc Cert.KernelIdeal.main_arg0)
      = Layout.block ⟨2, ![4096, 512]⟩ ⟨2, ![4096, 4096]⟩ 1 8 c (m' (((0 : Dev Cert.ReferenceIdeal.nD) : Thread Cert.ReferenceIdeal.nD Cert.ReferenceIdeal.τ).loc Cert.ReferenceIdeal.main_arg0))
    ∧ m ((c : Thread Cert.KernelIdeal.nD Cert.KernelIdeal.τ).loc Cert.KernelIdeal.main_arg1)
      = Layout.block ⟨2, ![512, 2048]⟩ ⟨2, ![4096, 2048]⟩ 0 8 c (m' (((0 : Dev Cert.ReferenceIdeal.nD) : Thread Cert.ReferenceIdeal.nD Cert.ReferenceIdeal.τ).loc Cert.ReferenceIdeal.main_arg1))
    ∧ m ((c : Thread Cert.KernelIdeal.nD Cert.KernelIdeal.τ).loc Cert.KernelIdeal.main_arg2)
      = m' (((0 : Dev Cert.ReferenceIdeal.nD) : Thread Cert.ReferenceIdeal.nD Cert.ReferenceIdeal.τ).loc Cert.ReferenceIdeal.main_arg2)
    ∧ m ((c : Thread Cert.KernelIdeal.nD Cert.KernelIdeal.τ).loc Cert.KernelIdeal.main_arg3)
      = m' (((0 : Dev Cert.ReferenceIdeal.nD) : Thread Cert.ReferenceIdeal.nD Cert.ReferenceIdeal.τ).loc Cert.ReferenceIdeal.main_arg3)

/-- The reference's operands and scale, as extended reals. -/
def wholeX : (⟨2, ![4096, 4096]⟩ : Shape).Idx → EReal := m' (((0 : Dev Cert.ReferenceIdeal.nD) : Thread Cert.ReferenceIdeal.nD Cert.ReferenceIdeal.τ).loc Cert.ReferenceIdeal.main_arg0)
def wholeW : (⟨2, ![4096, 2048]⟩ : Shape).Idx → EReal := m' (((0 : Dev Cert.ReferenceIdeal.nD) : Thread Cert.ReferenceIdeal.nD Cert.ReferenceIdeal.τ).loc Cert.ReferenceIdeal.main_arg1)
def refU : (⟨1, ![1]⟩ : Shape).Idx → EReal := m' (((0 : Dev Cert.ReferenceIdeal.nD) : Thread Cert.ReferenceIdeal.nD Cert.ReferenceIdeal.τ).loc Cert.ReferenceIdeal.main_arg2)
def refV : (⟨1, ![1]⟩ : Shape).Idx → EReal := m' (((0 : Dev Cert.ReferenceIdeal.nD) : Thread Cert.ReferenceIdeal.nD Cert.ReferenceIdeal.τ).loc Cert.ReferenceIdeal.main_arg3)

variable {m m'}

/-- Device `c`'s column `l` of `x` is column `512 c + l` of the whole; -/
theorem xval_eq (h : Parts m m') (c : Dev Cert.KernelIdeal.nD) (i : Fin 4096) (l : Fin 512) :
    xval (inp m) c (ix2 i l) = wholeX m' (ix2 i ⟨c.val * 512 + l.val, cut_lt c l⟩) := by
  have e : xval (inp m) c = Layout.block ⟨2, ![4096, 512]⟩ ⟨2, ![4096, 4096]⟩ 1 8 c (wholeX m') := (inp_x m c).trans (h c).1
  rw [e, Layout.block_apply]
  refine congrArg (wholeX m') (funext fun a => Fin.ext ?_)
  have p := Layout.idx_cols_val (dS := ![4096, 512]) (dT := ![4096, 4096]) (k := 8) (by decide) c (ix2 i l)
  fin_cases a
  · exact p.1
  · exact p.2

/-- its row `l` of `w` is row `512 c + l` of the whole; -/
theorem wval_eq (h : Parts m m') (c : Dev Cert.KernelIdeal.nD) (l : Fin 512) (j : Fin 2048) :
    wval (inp m) c (ix2 l j) = wholeW m' (ix2 ⟨c.val * 512 + l.val, cut_lt c l⟩ j) := by
  have e : wval (inp m) c = Layout.block ⟨2, ![512, 2048]⟩ ⟨2, ![4096, 2048]⟩ 0 8 c (wholeW m') := (inp_w m c).trans (h c).2.1
  rw [e, Layout.block_apply]
  refine congrArg (wholeW m') (funext fun a => Fin.ext ?_)
  have p := Layout.idx_rows_val (dS := ![512, 2048]) (dT := ![4096, 2048]) (k := 8) (by decide) c (ix2 l j)
  fin_cases a
  · exact p.1
  · exact p.2

/-- and its scale is the reference's. -/
theorem scale_ref (h : Parts m m') (c : Dev Cert.KernelIdeal.nD) : (inp m).scale c = refU m' (ix1 0) * refV m' (ix1 0) := by
  rw [scale_eq, (h c).2.2.1, (h c).2.2.2]
  rfl

/-- The reference's result, entry by entry. -/
theorem result_apply (i : Fin 4096) (j : Fin 2048) :
    (Cert.RefValue.result m' 0 (ix2 i j) : EReal)
      = (∑ k : Fin 4096, wholeX m' (ix2 i k) * wholeW m' (ix2 k j)) * (refU m' (ix1 0) * refV m' (ix1 0)) :=
  ref_apply (wholeX m') (wholeW m') (refU m' (ix1 0)) (refV m' (ix1 0)) i j

/-- A finished piece holds the reference's rows. -/
theorem total_eq (h : Parts m m') (h0 : 0 ≤ refU m' (ix1 0) * refV m' (ix1 0)) (h1 : refU m' (ix1 0) * refV m' (ix1 0) ≠ ⊤)
    (s : Bool) (k : Fin 8) (r : Fin 256) (j : Fin 2048) :
    ((inp m).total s k (ix2 r j) : EReal) = Cert.RefValue.result m' 0 (ix2 ⟨rowOf s k + r.val, row_lt s k r⟩ j) := by
  rw [total_apply, result_apply, ← sum_cut fun q => wholeX m' (ix2 ⟨rowOf s k + r.val, row_lt s k r⟩ q) * wholeW m' (ix2 q j),
    ← sum_scaled _ _ h0 h1]
  refine Finset.sum_congr rfl fun d _ => ?_
  rw [part_apply, scale_ref h]
  refine congrArg (· * (refU m' (ix1 0) * refV m' (ix1 0))) (Finset.sum_congr rfl fun l _ => ?_)
  rw [xval_eq h, wval_eq h]

/-- The kernel's output is the reference's result. -/
theorem out_eq (h : Parts m m') (h0 : 0 ≤ refU m' (ix1 0) * refV m' (ix1 0)) (h1 : refU m' (ix1 0) * refV m' (ix1 0) ≠ ⊤) :
    ((inp m).out : Cert.KernelIdeal.S4096x2048.Idx → EReal) = Cert.RefValue.result m' 0 := by
  funext i
  have hi : i ∈ (Finset.univ : Finset (Bool × Fin 8)).biUnion fun t => (pieceRect t).set := by
    rw [piece_cover]; exact Finset.mem_univ i
  obtain ⟨⟨s, k⟩, -, hi⟩ := Finset.mem_biUnion.mp hi
  rw [← Rect.map_emb_univ, Finset.mem_map] at hi
  obtain ⟨y, -, rfl⟩ := hi
  refine ((inp m).out_emb s k y).trans ?_
  obtain ⟨r, j, rfl⟩ : ∃ (r : Fin 256) (j : Fin 2048), y = ix2 r j := ⟨y 0, y 1, eq_ix2 y⟩
  refine (total_eq h h0 h1 s k r j).trans (congrArg (Cert.RefValue.result m' 0) (funext fun a => Fin.ext ?_))
  fin_cases a
  · show rowOf s k + r.val = rowOf s k + 1 * r.val
    omega
  · show j.val = 0 + 1 * j.val
    omega

/-- The kernel and the reference compute the same function over the extended reals. -/
theorem algebraic : Cert.algebraic_KernelIdeal_ReferenceIdeal_pre_scale_in_range_KernelIdeal := by
  intro m g m' g' hpre h
  have hs := scale_range _ _ _ _ (hpre 0)
  rw [(h 0).2.2.1, (h 0).2.2.2] at hs
  refine ⟨Cert.RefValue.result m' 0, ?_, ?_⟩
  · exact (θ_run Cert.KernelIdeal.defs _ _).mono (fun _ q c => ⟨(q.1 c).1.trans (out_eq h hs.1 hs.2), (q.1 c).2⟩) (run_main m g)
  · exact (θ_run Cert.ReferenceIdeal.defs _ _).mono (fun _ q => q 0) (Cert.RefValue.run m' g')

end Cert.RingProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.RingProof.pre_kernel, Cert.RingProof.pre_reference,
  Cert.RingProof.frame_kernel, Cert.RingProof.frame_ideal, fun m g _ => Cert.RingProof.frame_ideal m g trivial,
  Cert.RingProof.frame_reference, fun m g _ => Cert.RingProof.frame_reference m g trivial, trivial, Cert.RingProof.algebraic⟩

end Cert.Proof

end
